-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_nonneg [hPre_labels_nonneg : Cert.Pre_labels_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_labels_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_nonneg [hPre_labels_nonneg : Cert.Pre_labels_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_nonneg [hKernelIdeal : Cert.KernelIdeal.Facts] [hPre_labels_nonneg : Cert.Pre_labels_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_nonneg [hReferenceIdeal : Cert.ReferenceIdeal.Facts] [hPre_labels_nonneg : Cert.Pre_labels_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_nonneg [hKernelIdeal : Cert.KernelIdeal.Facts] [hReferenceIdeal : Cert.ReferenceIdeal.Facts] [hPre_labels_nonneg : Cert.Pre_labels_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_nonneg : Cert.Pre_labels_nonneg.Facts),
    quiescent_Kernel (hKernel := hKernel)
    ∧ quiescent_KernelIdeal (hKernelIdeal := hKernelIdeal)
    ∧ quiescent_KernelIdeal_pre_labels_nonneg (hKernelIdeal := hKernelIdeal) (hPre_labels_nonneg := hPre_labels_nonneg)
    ∧ quiescent_ReferenceIdeal (hReferenceIdeal := hReferenceIdeal)
    ∧ quiescent_ReferenceIdeal_pre_labels_nonneg (hReferenceIdeal := hReferenceIdeal) (hPre_labels_nonneg := hPre_labels_nonneg)
    ∧ preserves_Kernel_KernelIdeal
    ∧ algebraic_KernelIdeal_ReferenceIdeal_pre_labels_nonneg (hKernelIdeal := hKernelIdeal) (hReferenceIdeal := hReferenceIdeal) (hPre_labels_nonneg := hPre_labels_nonneg)
-- ==== Pre_labels_nonneg.lean ====
abbrev S32x1x128x64 : Shape := ⟨4, ![32, 1, 128, 64]⟩
abbrev S2048x128 : Shape := ⟨2, ![2048, 128]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x1x128x64 .f32) (main_arg1 : FVec F S2048x128 .f32) (main_arg2 : IVec S32 32) : IVec S32 1 :=
  let main_c : IVec S_ 32 := constantI S_ 32 0#32
  let main_v0 : IVec S32 32 := broadcastInDim S32 ![] bcast_S_S32 main_c
  let main_v1 : IVec S32 1 := cmpi .sge main_arg2 main_v0
  main_v1
-- ==== Kernel.lean ====
abbrev S32x1x128x64 : Shape := ⟨4, ![32, 1, 128, 64]⟩
abbrev S2048x128 : Shape := ⟨2, ![2048, 128]⟩
abbrev S32 : Shape := ⟨1, ![32]⟩
abbrev S32x128x64 : Shape := ⟨3, ![32, 128, 64]⟩
abbrev S32x1 : Shape := ⟨2, ![32, 1]⟩
abbrev S32x128 : Shape := ⟨2, ![32, 128]⟩
abbrev S512x128 : Shape := ⟨2, ![512, 128]⟩
abbrev S32x128x512 : Shape := ⟨3, ![32, 128, 512]⟩
abbrev S32x80x1024 : Shape := ⟨3, ![32, 80, 1024]⟩
abbrev S32x64x128 : Shape := ⟨3, ![32, 64, 128]⟩
abbrev S128x512 : Shape := ⟨2, ![128, 512]⟩
abbrev S1024x512 : Shape := ⟨2, ![1024, 512]⟩
abbrev S2560x1024 : Shape := ⟨2, ![2560, 1024]⟩
abbrev S2560x512 : Shape := ⟨2, ![2560, 512]⟩
abbrev S32x40x512 : Shape := ⟨3, ![32, 40, 512]⟩
abbrev S32x8x512 : Shape := ⟨3, ![32, 8, 512]⟩
abbrev S32x80x512 : Shape := ⟨3, ![32, 80, 512]⟩
abbrev S32x512 : Shape := ⟨2, ![32, 512]⟩
abbrev S32x1x512 : Shape := ⟨3, ![32, 1, 512]⟩
abbrev S32x128x1 : Shape := ⟨3, ![32, 128, 1]⟩
abbrev S32x2048x81 : Shape := ⟨3, ![32, 2048, 81]⟩
abbrev S32x256x81 : Shape := ⟨3, ![32, 256, 81]⟩
abbrev S32x81 : Shape := ⟨2, ![32, 81]⟩
abbrev S32x1x81 : Shape := ⟨3, ![32, 1, 81]⟩
abbrev S32x1x2048x81 : Shape := ⟨4, ![32, 1, 2048, 81]⟩

abbrev nBuf : Space → Nat
  | .hbm => 9
  | .vmem => 12
  | .smem => 0
  | _ => 0

abbrev bufTy : (tb : Table) → Fin (tcTables nBuf tb) → BufTy
  | .hbm, ⟨0, _⟩ => ⟨S32x1x128x64, .f32⟩
  | .hbm, ⟨1, _⟩ => ⟨S2048x128, .f32⟩
  | .hbm, ⟨2, _⟩ => ⟨S32, .i32⟩
  | .hbm, ⟨3, _⟩ => ⟨S32x128x64, .f32⟩
  | .hbm, ⟨4, _⟩ => ⟨S32x1, .i32⟩
  | .hbm, ⟨5, _⟩ => ⟨S32x128, .f32⟩
  | .hbm, ⟨6, _⟩ => ⟨S32x128, .i32⟩
  | .hbm, ⟨7, _⟩ => ⟨S32x2048x81, .f32⟩
  | .hbm, ⟨8, _⟩ => ⟨S32x1x2048x81, .f32⟩
  | .local _ .vmem, ⟨0, _⟩ => ⟨S32x128x64, .f32⟩
  | .local _ .vmem, ⟨1, _⟩ => ⟨S512x128, .f32⟩
  | .local _ .vmem, ⟨2, _⟩ => ⟨S512x128, .f32⟩
  | .local _ .vmem, ⟨3, _⟩ => ⟨S32x1, .i32⟩
  | .local _ .vmem, ⟨4, _⟩ => ⟨S32x128, .f32⟩
  | .local _ .vmem, ⟨5, _⟩ => ⟨S32x128, .i32⟩
  | .local _ .vmem, ⟨6, _⟩ => ⟨S32x128x512, .f32⟩
  | .local _ .vmem, ⟨7, _⟩ => ⟨S32x80x1024, .f32⟩
  | .local _ .vmem, ⟨8, _⟩ => ⟨S32x128, .f32⟩
  | .local _ .vmem, ⟨9, _⟩ => ⟨S32x128, .i32⟩
  | .local _ .vmem, ⟨10, _⟩ => ⟨S32x256x81, .f32⟩
  | .local _ .vmem, ⟨11, _⟩ => ⟨S32x256x81, .f32⟩
  | _, _ => ⟨S32x1x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_96 : BitVec 32 := 0#32
  let v198 : BitVec 1 := Scalar.cmpi .eq arg0 c0_i32_96
  let v199 : BitVec 32 := Scalar.extui v198
  let c0_i32_97 : BitVec 32 := 0#32
  let v200 : BitVec 1 := Scalar.cmpi .ne v199 c0_i32_97
  v200

def k0_cond3 (i : grid0.Coords) : BitVec 1 :=
  let arg0 : BitVec 32 := BitVec.ofNat 32 (i 0).val
  let c0_i32_98 : BitVec 32 := 0#32
  let v201 : BitVec 1 := Scalar.cmpi .sgt arg0 c0_i32_98
  let v202 : BitVec 32 := Scalar.extui v201
  let c0_i32_99 : BitVec 32 := 0#32
  let v203 : BitVec 1 := Scalar.cmpi .ne v202 c0_i32_99
  v203

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x256x81 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S32x1x128x64 : Shape := ⟨4, ![32, 1, 128, 64]⟩
abbrev S2048x128 : Shape := ⟨2, ![2048, 128]⟩
abbrev S32 : Shape := ⟨1, ![32]⟩
abbrev S32x128x64 : Shape := ⟨3, ![32, 128, 64]⟩
abbrev S48 : Shape := ⟨1, ![48]⟩
abbrev S2048x128x1 : Shape := ⟨3, ![2048, 128, 1]⟩
abbrev S_ : Shape := ⟨0, ![]⟩
abbrev S1x1x48 : Shape := ⟨3, ![1, 1, 48]⟩
abbrev S2048x128x48 : Shape := ⟨3, ![2048, 128, 48]⟩
abbrev S32x128x128 : Shape := ⟨3, ![32, 128, 128]⟩
abbrev S32x2048 : Shape := ⟨2, ![32, 2048]⟩
abbrev S32x1 : Shape := ⟨2, ![32, 1]⟩
abbrev S32x2 : Shape := ⟨2, ![32, 2]⟩
abbrev S81 : Shape := ⟨1, ![81]⟩
abbrev S81x32x2048 : Shape := ⟨3, ![81, 32, 2048]⟩
abbrev S1 : Shape := ⟨1, ![1]⟩
abbrev S32x128x48 : Shape := ⟨3, ![32, 128, 48]⟩
abbrev S2048 : Shape := ⟨1, ![2048]⟩
abbrev S32x1x1 : Shape := ⟨3, ![32, 1, 1]⟩
abbrev S1x1x1 : Shape := ⟨3, ![1, 1, 1]⟩
abbrev S1x32x2048 : Shape := ⟨3, ![1, 32, 2048]⟩
abbrev S32x2048x81 : Shape := ⟨3, ![32, 2048, 81]⟩
abbrev S32x1x2048x81 : Shape := ⟨4, ![32, 1, 2048, 81]⟩

abbrev nBuf : Space → Nat
  | .hbm => 203
  | .vmem => 0
  | .smem => 0
  | _ => 0

abbrev hbmTy0_0 (i : Nat) : BufTy := match i % 128 with
  | 0 => ⟨S32x1x128x64, .f32⟩
  | 1 => ⟨S2048x128, .f32⟩
  | 2 => ⟨S32, .i32⟩
  | 3 => ⟨S32x128x64, .f32⟩
  | 4 => ⟨S48, .f32⟩
  | 5 => ⟨S2048x128x1, .f32⟩
  | 6 => ⟨S_, .f32⟩
  | 7 => ⟨S48, .f32⟩
  | 8 => ⟨S48, .f32⟩
  | 9 => ⟨S_, .f32⟩
  | 10 => ⟨S2048x128x1, .f32⟩
  | 11 => ⟨S2048x128x1, .f32⟩
  | 12 => ⟨S1x1x48, .f32⟩
  | 13 => ⟨S2048x128x48, .f32⟩
  | 14 => ⟨S2048x128x48, .f32⟩
  | 15 => ⟨S2048x128x48, .f32⟩
  | 16 => ⟨S2048x128x48, .f32⟩
  | 17 => ⟨S_, .f32⟩
  | 18 => ⟨S2048x128x48, .f32⟩
  | 19 => ⟨S2048x128x48, .f32⟩
  | 20 => ⟨S2048x128x48, .f32⟩
  | 21 => ⟨S2048x128x48, .f32⟩
  | 22 => ⟨S1x1x48, .f32⟩
  | 23 => ⟨S2048x128x48, .f32⟩
  | 24 => ⟨S2048x128x48, .f32⟩
  | 25 => ⟨S_, .f32⟩
  | 26 => ⟨S2048x128x48, .f32⟩
  | 27 => ⟨S2048x128x48, .f32⟩
  | 28 => ⟨S2048x128x48, .f32⟩
  | 29 => ⟨S_, .i32⟩
  | 30 => ⟨S_, .f32⟩
  | 31 => ⟨S32x128x128, .f32⟩
  | 32 => ⟨S_, .i32⟩
  | 33 => ⟨S32x2048, .i32⟩
  | 34 => ⟨S32, .i32⟩
  | 35 => ⟨S_, .i32⟩
  | 36 => ⟨S32, .i32⟩
  | 37 => ⟨S32, .i1⟩
  | 38 => ⟨S_, .i32⟩
  | 39 => ⟨S32, .i32⟩
  | 40 => ⟨S32, .i32⟩
  | 41 => ⟨S32, .i32⟩
  | 42 => ⟨S_, .i32⟩
  | 43 => ⟨S32, .i32⟩
  | 44 => ⟨S32, .i1⟩
  | 45 => ⟨S_, .i32⟩
  | 46 => ⟨S32, .i32⟩
  | 47 => ⟨S32, .i32⟩
  | 48 => ⟨S32, .i32⟩
  | 49 => ⟨S32x1, .i32⟩
  | 50 => ⟨S32x1, .i32⟩
  | 51 => ⟨S32x2, .i32⟩
  | 52 => ⟨S_, .i32⟩
  | 53 => ⟨S32, .i32⟩
  | 54 => ⟨S32x2048, .i32⟩
  | 55 => ⟨S_, .i32⟩
  | 56 => ⟨S32x2048, .i32⟩
  | 57 => ⟨S81, .i32⟩
  | 58 => ⟨S_, .i32⟩
  | 59 => ⟨S81x32x2048, .i32⟩
  | 60 => ⟨S_, .i32⟩
  | 61 => ⟨S81, .i32⟩
  | 62 => ⟨S32x128x128, .f32⟩
  | 63 => ⟨S2048x128x48, .f32⟩
  | 64 => ⟨S32x2048, .i32⟩
  | 65 => ⟨S_, .i32⟩
  | 66 => ⟨S32x2048, .i32⟩
  | 67 => ⟨S81x32x2048, .i32⟩
  | 68 => ⟨S_, .i32⟩
  | 69 => ⟨S_, .i1⟩
  | 70 => ⟨S1, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S32x128x48, .f32⟩
  | 80 => ⟨S32x2048, .f32⟩
  | 81 => ⟨S32x2048, .f32⟩
  | 82 => ⟨S32x2048, .f32⟩
  | 83 => ⟨S_, .i32⟩
  | 84 => ⟨S32x2048, .i32⟩
  | 85 => ⟨S32x2048, .i1⟩
  | 86 => ⟨S32x2048, .f32⟩
  | 87 => ⟨S32x2048, .f32⟩
  | 88 => ⟨S_, .f32⟩
  | 89 => ⟨S32, .f32⟩
  | 90 => ⟨S32x1, .f32⟩
  | 91 => ⟨S32x2048, .f32⟩
  | 92 => ⟨S32x2048, .i1⟩
  | 93 => ⟨S2048, .i32⟩
  | 94 => ⟨S_, .i32⟩
  | 95 => ⟨S_, .i32⟩
  | 96 => ⟨S32x2048, .i32⟩
  | 97 => ⟨S32x2048, .i32⟩
  | 98 => ⟨S32x2048, .i32⟩
  | 99 => ⟨S_, .i32⟩
  | 100 => ⟨S32, .i32⟩
  | 101 => ⟨S32x1, .i32⟩
  | 102 => ⟨S_, .i32⟩
  | 103 => ⟨S32x1, .i32⟩
  | 104 => ⟨S32x1, .i1⟩
  | 105 => ⟨S_, .i32⟩
  | 106 => ⟨S32x1, .i32⟩
  | 107 => ⟨S32x1, .i32⟩
  | 108 => ⟨S32x1, .i32⟩
  | 109 => ⟨S32x1x1, .i32⟩
  | 110 => ⟨S1, .i32⟩
  | 111 => ⟨S_, .i32⟩
  | 112 => ⟨S32x1x1, .i32⟩
  | 113 => ⟨S32x1x1, .i1⟩
  | 114 => ⟨S1x1x1, .i32⟩
  | 115 => ⟨S32x1x1, .i32⟩
  | 116 => ⟨S32x1x1, .i1⟩
  | 117 => ⟨S32x1x1, .i1⟩
  | 118 => ⟨S_, .i1⟩
  | 119 => ⟨S32x1, .i1⟩
  | 120 => ⟨S32x1, .f32⟩
  | 121 => ⟨S_, .f32⟩
  | 122 => ⟨S32x1, .f32⟩
  | 123 => ⟨S32x1, .f32⟩
  | 124 => ⟨S_, .f32⟩
  | 125 => ⟨S32x1, .f32⟩
  | 126 => ⟨S32x1, .i1⟩
  | 127 => ⟨S32x1, .i32⟩
  | _ => ⟨S32x1x128x64, .f32⟩

abbrev hbmTy0_1 (i : Nat) : BufTy := match i % 128 with
  | 0 => ⟨S_, .i32⟩
  | 1 => ⟨S32x2048, .i32⟩
  | 2 => ⟨S32, .i32⟩
  | 3 => ⟨S32, .i32⟩
  | 4 => ⟨S_, .i32⟩
  | 5 => ⟨S32, .i32⟩
  | 6 => ⟨S32, .i1⟩
  | 7 => ⟨S_, .i32⟩
  | 8 => ⟨S32, .i32⟩
  | 9 => ⟨S32, .i32⟩
  | 10 => ⟨S32, .i32⟩
  | 11 => ⟨S_, .i32⟩
  | 12 => ⟨S32, .i32⟩
  | 13 => ⟨S32, .i1⟩
  | 14 => ⟨S_, .i32⟩
  | 15 => ⟨S32, .i32⟩
  | 16 => ⟨S32, .i32⟩
  | 17 => ⟨S32, .i32⟩
  | 18 => ⟨S32x1, .i32⟩
  | 19 => ⟨S32x1, .i32⟩
  | 20 => ⟨S32x2, .i32⟩
  | 21 => ⟨S32x2048, .i32⟩
  | 22 => ⟨S32, .i32⟩
  | 23 => ⟨S32, .i32⟩
  | 24 => ⟨S32, .i32⟩
  | 25 => ⟨S_, .i32⟩
  | 26 => ⟨S32, .i32⟩
  | 27 => ⟨S32, .i32⟩
  | 28 => ⟨S_, .i32⟩
  | 29 => ⟨S32, .i32⟩
  | 30 => ⟨S32, .i1⟩
  | 31 => ⟨S_, .i32⟩
  | 32 => ⟨S32, .i32⟩
  | 33 => ⟨S32, .i32⟩
  | 34 => ⟨S32, .i32⟩
  | 35 => ⟨S_, .i32⟩
  | 36 => ⟨S32, .i32⟩
  | 37 => ⟨S32, .i1⟩
  | 38 => ⟨S_, .i32⟩
  | 39 => ⟨S32, .i32⟩
  | 40 => ⟨S32, .i32⟩
  | 41 => ⟨S32, .i32⟩
  | 42 => ⟨S32x1, .i32⟩
  | 43 => ⟨S32x1, .i32⟩
  | 44 => ⟨S32x2, .i32⟩
  | 45 => ⟨S32x2048, .i32⟩
  | 46 => ⟨S_, .i32⟩
  | 47 => ⟨S32x1, .i32⟩
  | 48 => ⟨S32x1, .i32⟩
  | 49 => ⟨S32x2048, .i32⟩
  | 50 => ⟨S32x2048, .i32⟩
  | 51 => ⟨S_, .i32⟩
  | 52 => ⟨S32x2048, .i32⟩
  | 53 => ⟨S32x2048, .i32⟩
  | 54 => ⟨S32x2048, .i32⟩
  | 55 => ⟨S_, .i32⟩
  | 56 => ⟨S32x2048, .i32⟩
  | 57 => ⟨S32x2048, .i32⟩
  | 58 => ⟨S_, .i32⟩
  | 59 => ⟨S_, .i32⟩
  | 60 => ⟨S_, .i32⟩
  | 61 => ⟨S32x2048, .i32⟩
  | 62 => ⟨S32x2048, .i32⟩
  | 63 => ⟨S_, .i32⟩
  | 64 => ⟨S32x2048, .i32⟩
  | 65 => ⟨S32x2048, .i32⟩
  | 66 => ⟨S1x32x2048, .i32⟩
  | 67 => ⟨S_, .i32⟩
  | 68 => ⟨S_, .i32⟩
  | 69 => ⟨S81x32x2048, .i32⟩
  | 70 => ⟨S_, .i32⟩
  | 71 => ⟨S_, .i32⟩
  | 72 => ⟨S32x2048x81, .i32⟩
  | 73 => ⟨S32x1x2048x81, .i32⟩
  | 74 => ⟨S32x1x2048x81, .f32⟩
  | _ => ⟨S32x1x128x64, .f32⟩

abbrev hbmTy (i : Nat) : BufTy := match i / 128 with
  | 0 => hbmTy0_0 i
  | 1 => hbmTy0_1 i
  | _ => ⟨S32x1x128x64, .f32⟩

abbrev bufTy : (tb : Table) → Fin (tcTables nBuf tb) → BufTy
  | .hbm, ⟨i, _⟩ => hbmTy i
  | _, _ => ⟨S32x1x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call1_v0 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_v42 : Ref sig .tc := ⟨.hbm, 59, rfl⟩
abbrev main_c_11 : Ref sig .tc := ⟨.hbm, 60, rfl⟩
abbrev main_v43_0 : Ref sig .tc := ⟨.hbm, 61, rfl⟩
abbrev main_v43_1 : Ref sig .tc := ⟨.hbm, 62, rfl⟩
abbrev main_v43_2 : Ref sig .tc := ⟨.hbm, 63, rfl⟩
abbrev main_v43_3 : Ref sig .tc := ⟨.hbm, 64, rfl⟩
abbrev main_v43_4 : Ref sig .tc := ⟨.hbm, 65, rfl⟩
abbrev main_v43_5 : Ref sig .tc := ⟨.hbm, 66, rfl⟩
abbrev main_v43_6 : Ref sig .tc := ⟨.hbm, 67, rfl⟩
abbrev main_while0c_c_18 : Ref sig .tc := ⟨.hbm, 68, rfl⟩
abbrev main_while0c_v47 : Ref sig .tc := ⟨.hbm, 69, rfl⟩
abbrev main_while0b_call2_v0 : Ref sig .tc := ⟨.hbm, 70, rfl⟩
abbrev main_while0b_v47 : Ref sig .tc := ⟨.hbm, 71, rfl⟩
abbrev main_while0b_c_18 : Ref sig .tc := ⟨.hbm, 72, rfl⟩
abbrev main_while0b_v48 : Ref sig .tc := ⟨.hbm, 73, rfl⟩
abbrev main_while0b_c_19 : Ref sig .tc := ⟨.hbm, 74, rfl⟩
abbrev main_while0b_v49 : Ref sig .tc := ⟨.hbm, 75, rfl⟩
abbrev main_while0b_v50 : Ref sig .tc := ⟨.hbm, 76, rfl⟩
abbrev main_while0b_c_20 : Ref sig .tc := ⟨.hbm, 77, rfl⟩
abbrev main_while0b_c_21 : Ref sig .tc := ⟨.hbm, 78, rfl⟩
abbrev main_while0b_v51 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_c_22 : Ref sig .tc := ⟨.hbm, 83, rfl⟩
abbrev main_while0b_v55 : Ref sig .tc := ⟨.hbm, 84, rfl⟩
abbrev main_while0b_v56 : Ref sig .tc := ⟨.hbm, 85, rfl⟩
abbrev main_while0b_v57 : Ref sig .tc := ⟨.hbm, 86, rfl⟩
abbrev main_while0b_v58 : Ref sig .tc := ⟨.hbm, 87, rfl⟩
abbrev main_while0b_cst_23 : Ref sig .tc := ⟨.hbm, 88, rfl⟩
abbrev main_while0b_v59 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_c_24 : Ref sig .tc := ⟨.hbm, 94, rfl⟩
abbrev main_while0b_call3_v0 : Ref sig .tc := ⟨.hbm, 95, rfl⟩
abbrev main_while0b_call3_v1 : Ref sig .tc := ⟨.hbm, 96, rfl⟩
abbrev main_while0b_call3_v2 : Ref sig .tc := ⟨.hbm, 97, rfl⟩
abbrev main_while0b_v64 : Ref sig .tc := ⟨.hbm, 98, rfl⟩
abbrev main_while0b_c_25 : Ref sig .tc := ⟨.hbm, 99, rfl⟩
abbrev main_while0b_v65 : Ref sig .tc := ⟨.hbm, 100, rfl⟩
abbrev main_while0b_v66 : Ref sig .tc := ⟨.hbm, 101, rfl⟩
abbrev main_while0b_call4_c : Ref sig .tc := ⟨.hbm, 102, rfl⟩
abbrev main_while0b_call4_v0 : Ref sig .tc := ⟨.hbm, 103, rfl⟩
abbrev main_while0b_call4_v1 : Ref sig .tc := ⟨.hbm, 104, rfl⟩
abbrev main_while0b_call4_c_0 : Ref sig .tc := ⟨.hbm, 105, rfl⟩
abbrev main_while0b_call4_v2 : Ref sig .tc := ⟨.hbm, 106, rfl⟩
abbrev main_while0b_call4_v3 : Ref sig .tc := ⟨.hbm, 107, rfl⟩
abbrev main_while0b_call4_v4 : Ref sig .tc := ⟨.hbm, 108, rfl⟩
abbrev main_while0b_call4_v5 : Ref sig .tc := ⟨.hbm, 109, rfl⟩
abbrev main_while0b_call4_c_1 : Ref sig .tc := ⟨.hbm, 110, rfl⟩
abbrev main_while0b_call4_c_2 : Ref sig .tc := ⟨.hbm, 111, rfl⟩
abbrev main_while0b_call4_v6 : Ref sig .tc := ⟨.hbm, 112, rfl⟩
abbrev main_while0b_call4_v7 : Ref sig .tc := ⟨.hbm, 113, rfl⟩
abbrev main_while0b_call4_v8 : Ref sig .tc := ⟨.hbm, 114, rfl⟩
abbrev main_while0b_call4_v9 : Ref sig .tc := ⟨.hbm, 115, rfl⟩
abbrev main_while0b_call4_v10 : Ref sig .tc := ⟨.hbm, 116, rfl⟩
abbrev main_while0b_call4_v11 : Ref sig .tc := ⟨.hbm, 117, rfl⟩
abbrev main_while0b_call4_c_3 : Ref sig .tc := ⟨.hbm, 118, rfl⟩
abbrev main_while0b_call4_v12 : Ref sig .tc := ⟨.hbm, 119, rfl⟩
abbrev main_while0b_call4_v13 : Ref sig .tc := ⟨.hbm, 120, rfl⟩
abbrev main_while0b_call4_cst : Ref sig .tc := ⟨.hbm, 121, rfl⟩
abbrev main_while0b_call4_v14 : Ref sig .tc := ⟨.hbm, 122, rfl⟩
abbrev main_while0b_v67 : Ref sig .tc := ⟨.hbm, 123, rfl⟩
abbrev main_while0b_cst_26 : Ref sig .tc := ⟨.hbm, 124, rfl⟩
abbrev main_while0b_v68 : Ref sig .tc := ⟨.hbm, 125, rfl⟩
abbrev main_while0b_v69 : Ref sig .tc := ⟨.hbm, 126, rfl⟩
abbrev main_while0b_v70 : Ref sig .tc := ⟨.hbm, 127, rfl⟩
abbrev main_while0b_c_27 : Ref sig .tc := ⟨.hbm, 128, rfl⟩
abbrev main_while0b_v71 : Ref sig .tc := ⟨.hbm, 129, rfl⟩
abbrev main_while0b_v72 : Ref sig .tc := ⟨.hbm, 130, rfl⟩
abbrev main_while0b_v73 : Ref sig .tc := ⟨.hbm, 131, rfl⟩
abbrev main_while0b_c_28 : Ref sig .tc := ⟨.hbm, 132, rfl⟩
abbrev main_while0b_v74 : Ref sig .tc := ⟨.hbm, 133, rfl⟩
abbrev main_while0b_v75 : Ref sig .tc := ⟨.hbm, 134, rfl⟩
abbrev main_while0b_c_29 : Ref sig .tc := ⟨.hbm, 135, rfl⟩
abbrev main_while0b_v76 : Ref sig .tc := ⟨.hbm, 136, rfl⟩
abbrev main_while0b_v77 : Ref sig .tc := ⟨.hbm, 137, rfl⟩
abbrev main_while0b_v78 : Ref sig .tc := ⟨.hbm, 138, rfl⟩
abbrev main_while0b_c_30 : Ref sig .tc := ⟨.hbm, 139, rfl⟩
abbrev main_while0b_v79 : Ref sig .tc := ⟨.hbm, 140, rfl⟩
abbrev main_while0b_v80 : Ref sig .tc := ⟨.hbm, 141, rfl⟩
abbrev main_while0b_c_31 : Ref sig .tc := ⟨.hbm, 142, rfl⟩
abbrev main_while0b_v81 : Ref sig .tc := ⟨.hbm, 143, rfl⟩
abbrev main_while0b_v82 : Ref sig .tc := ⟨.hbm, 144, rfl⟩
abbrev main_while0b_v83 : Ref sig .tc := ⟨.hbm, 145, rfl⟩
abbrev main_while0b_v84 : Ref sig .tc := ⟨.hbm, 146, rfl⟩
abbrev main_while0b_v85 : Ref sig .tc := ⟨.hbm, 147, rfl⟩
abbrev main_while0b_v86 : Ref sig .tc := ⟨.hbm, 148, rfl⟩
abbrev main_while0b_v87 : Ref sig .tc := ⟨.hbm, 149, rfl⟩
abbrev main_while0b_v88 : Ref sig .tc := ⟨.hbm, 150, rfl⟩
abbrev main_while0b_v89 : Ref sig .tc := ⟨.hbm, 151, rfl⟩
abbrev main_while0b_v90 : Ref sig .tc := ⟨.hbm, 152, rfl⟩
abbrev main_while0b_c_32 : Ref sig .tc := ⟨.hbm, 153, rfl⟩
abbrev main_while0b_v91 : Ref sig .tc := ⟨.hbm, 154, rfl⟩
abbrev main_while0b_v92 : Ref sig .tc := ⟨.hbm, 155, rfl⟩
abbrev main_while0b_c_33 : Ref sig .tc := ⟨.hbm, 156, rfl⟩
abbrev main_while0b_v93 : Ref sig .tc := ⟨.hbm, 157, rfl⟩
abbrev main_while0b_v94 : Ref sig .tc := ⟨.hbm, 158, rfl⟩
abbrev main_while0b_c_34 : Ref sig .tc := ⟨.hbm, 159, rfl⟩
abbrev main_while0b_v95 : Ref sig .tc := ⟨.hbm, 160, rfl⟩
abbrev main_while0b_v96 : Ref sig .tc := ⟨.hbm, 161, rfl⟩
abbrev main_while0b_v97 : Ref sig .tc := ⟨.hbm, 162, rfl⟩
abbrev main_while0b_c_35 : Ref sig .tc := ⟨.hbm, 163, rfl⟩
abbrev main_while0b_v98 : Ref sig .tc := ⟨.hbm, 164, rfl⟩
abbrev main_while0b_v99 : Ref sig .tc := ⟨.hbm, 165, rfl⟩
abbrev main_while0b_c_36 : Ref sig .tc := ⟨.hbm, 166, rfl⟩
abbrev main_while0b_v100 : Ref sig .tc := ⟨.hbm, 167, rfl⟩
abbrev main_while0b_v101 : Ref sig .tc := ⟨.hbm, 168, rfl⟩
abbrev main_while0b_v102 : Ref sig .tc := ⟨.hbm, 169, rfl⟩
abbrev main_while0b_v103 : Ref sig .tc := ⟨.hbm, 170, rfl⟩
abbrev main_while0b_v104 : Ref sig .tc := ⟨.hbm, 171, rfl⟩
abbrev main_while0b_v105 : Ref sig .tc := ⟨.hbm, 172, rfl⟩
abbrev main_while0b_v106 : Ref sig .tc := ⟨.hbm, 173, rfl⟩
abbrev main_while0b_c_37 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_c_38 : Ref sig .tc := ⟨.hbm, 179, rfl⟩
abbrev main_while0b_v111 : Ref sig .tc := ⟨.hbm, 180, rfl⟩
abbrev main_while0b_v112 : Ref sig .tc := ⟨.hbm, 181, rfl⟩
abbrev main_while0b_v113 : Ref sig .tc := ⟨.hbm, 182, rfl⟩
abbrev main_while0b_c_39 : Ref sig .tc := ⟨.hbm, 183, rfl⟩
abbrev main_while0b_v114 : Ref sig .tc := ⟨.hbm, 184, rfl⟩
abbrev main_while0b_v115 : Ref sig .tc := ⟨.hbm, 185, rfl⟩
abbrev main_while0b_c_40 : Ref sig .tc := ⟨.hbm, 186, rfl⟩
abbrev main_while0b_c_41 : Ref sig .tc := ⟨.hbm, 187, rfl⟩
abbrev main_while0b_call5_v0 : Ref sig .tc := ⟨.hbm, 188, rfl⟩
abbrev main_while0b_call5_v1 : Ref sig .tc := ⟨.hbm, 189, rfl⟩
abbrev main_while0b_call5_v2 : Ref sig .tc := ⟨.hbm, 190, rfl⟩
abbrev main_while0b_call5_v3 : Ref sig .tc := ⟨.hbm, 191, rfl⟩
abbrev main_while0b_call5_v4 : Ref sig .tc := ⟨.hbm, 192, rfl⟩
abbrev main_while0b_v116 : Ref sig .tc := ⟨.hbm, 193, rfl⟩
abbrev main_while0b_call6_v0 : Ref sig .tc := ⟨.hbm, 194, rfl⟩
abbrev main_while0b_call6_c : Ref sig .tc := ⟨.hbm, 195, rfl⟩
abbrev main_while0b_call6_c_0 : Ref sig .tc := ⟨.hbm, 196, rfl⟩
abbrev main_while0b_v117 : Ref sig .tc := ⟨.hbm, 197, rfl⟩
abbrev main_while0b_c_42 : Ref sig .tc := ⟨.hbm, 198, rfl⟩
abbrev main_while0b_v118 : Ref sig .tc := ⟨.hbm, 199, rfl⟩
abbrev main_v44 : Ref sig .tc := ⟨.hbm, 200, rfl⟩
abbrev main_v45 : Ref sig .tc := ⟨.hbm, 201, rfl⟩
abbrev main_v46 : Ref sig .tc := ⟨.hbm, 202, rfl⟩

abbrev nD : Nat := 1
abbrev τ : Topo := Topo.v7x

variable {F : FTy → Type} [FloatOps F]

abbrev main_while0_count : Scf.Loop 32 := ⟨0#32, 81#32, 1#32⟩
-- ==== Proof.KernelIdealFirst.lean ====
/- The first region (the potentials and their running maximum): its blocks, the closed forms of its branch conditions, and
   the run of its body in each of the two cases. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The frame claim's post from the frame run's -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points from point 1 on — decided over the grid. -/
theorem hcond0_2 : ∀ t : Fin cfg0.N, cond0_2 (grid0.coords t) ↔ 1 ≤ t.val :=
  (by decide +kernel : ∀ t : Fin grid0.N, cond0_2 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab0_3_step` checks it against the configuration's own
    step point by point and `Cfg.fresh_tab` makes it `Cfg.fresh` (`fresh0_3_eq`). -/
def freshTab0_3 : ℕ → Bool
  | 0 => true
  | n + 1 => (0x8 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → cond0_1 (grid0.coords t) → ¬cond0_2 (grid0.coords t) → cfg0.idle 3 (grid0.coords t) = false := by decide +kernel
/-- At the points of case B the printed configuration (`Cfg.idle`) calls output 3 live: the case stores into it. -/
theorem liveAt0_3_B : ∀ t : Fin cfg0.N, ¬cond0_0 (grid0.coords t) → ¬cond0_1 (grid0.coords t) → cond0_2 (grid0.coords t) → cfg0.idle 3 (grid0.coords t) = false := by decide +kernel
/-- At the points of case B, which keeps output 3's prior contents (reads it before covering, or covers it in part), the
    window's buffer is not FRESH: something was stored into it since the region's entry or its last write-back, idle points
    between or not . -/
theorem notFresh0_3_B : ∀ t : Fin cfg0.N, ¬cond0_0 (grid0.coords t) → ¬cond0_1 (grid0.coords t) → cond0_2 (grid0.coords t) → cfg0.fresh 3 t.val = false := by
  intro t; rw [fresh0_3_eq t]; revert t; decide +kernel
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and `Cfg.fresh_tab` makes it `Cfg.fresh` (`fresh0_4_eq`). -/
def freshTab0_4 : ℕ → Bool
  | 0 => true
  | n + 1 => (0x8 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → cond0_1 (grid0.coords t) → ¬cond0_2 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → ¬cond0_1 (grid0.coords t) → cond0_2 (grid0.coords t) → cfg0.idle 4 (grid0.coords t) = false := by decide +kernel
/-- At the points of case B, which keeps output 4's prior contents (reads it before covering, or covers it in part), the
    window's buffer is not FRESH: something was stored into it since the region's entry or its last write-back, idle points
    between or not . -/
theorem notFresh0_4_B : ∀ t : Fin cfg0.N, ¬cond0_0 (grid0.coords t) → ¬cond0_1 (grid0.coords t) → cond0_2 (grid0.coords t) → cfg0.fresh 4 t.val = false := by
  intro t; rw [fresh0_4_eq t]; revert t; decide +kernel

/-! ## The kernel body on any staging memrefs: a subtype the run finds -/

/-- One staging buffer of output window 3, through which its contents are stated (`View.read_writes_of_cover`: the
    choice does not matter). -/
abbrev VO0_3 : View sig .tc .vmem S32x128 .f32 := (Memref.whole cc0_stg3_0 : Memref sig .tc .vmem S32x128 .f32).view
/-- One staging buffer of output window 4, through which its contents are stated (`View.read_writes_of_cover`: the
    choice does not matter). -/
abbrev VO0_4 : View sig .tc .vmem S32x128 .i32 := (Memref.whole cc0_stg4_0 : Memref sig .tc .vmem S32x128 .i32).view
/-- Each window's current staging memref at point `t`, spelled as the pipeline passes it (`bodyAt0`), and its wholeness. -/
abbrev ms0_0 (t : Fin cfg0.N) : Memref sig .tc .vmem S32x128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x128 .i32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S32x128x512 .f32 := Memref.whole cc0_scratch0
abbrev scM0_1 : Memref sig .tc .vmem S32x80x1024 .f32 := Memref.whole cc0_scratch1
/-- The scratch `arg7` the kernel carries between points, as a view: what it holds is stated through it. -/
abbrev VS0_1 : View sig .tc .vmem S32x80x1024 .f32 := scM0_1.view

/-- The scoped buffers of the second region's pipeline, at any contents: the first region never touches them. -/
abbrev restB (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restB c) ∗ (∃ r, prngReg c r)) := by
  unfold Pipeline.ΦA restB; rw [scopedRest0_eq]; simp only [scM0_0, scM0_1, owns_whole]; try rfl

set_option maxHeartbeats 1000000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_A (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : cond0_0 i) (hc1 : cond0_1 i) (hc2 : ¬cond0_2 i)
    (x0 : Vec F S32x128x64 .f32) (x1 : Vec F S512x128 .f32) (x2 : Vec F S32x1 .i32) :
    Σ' (L3 : List (View.Piece (Elt F) S32x128 .f32)), Σ' (L4 : List (View.Piece (Elt F) S32x128 .i32)), Σ' (LS1 : List (View.Piece (Elt F) S32x80x1024 .f32)), { LT0 : List (View.Piece (Elt F) S32x128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc0__phase1 i arg1 harg1 arg2 harg2 arg3 harg3 arg4 harg4 arg5 harg5 arg6 harg6 arg7 harg7) K } := by
  refine ⟨?_, ?_, ?_, ?_, fun E K => ?run⟩
  case run =>
    simp only [cc0__phase1_eq_skeleton]; unfold cc0__phase1_skel
    simp only [k0_part2_eq_skeleton, k0_part1_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

set_option maxHeartbeats 1000000 in
/-- What the body's stores leave in each output's staging memref, as pieces (last first) IN CASE B (`scf.if` 0 not taken, `scf.if` 1 not taken, `scf.if` 2 taken: points 1, 2, 3), WITH the
    proof that on whole staging memrefs — the inputs' at their contents, the outputs it reads before covering (3, 4) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_B (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : ¬cond0_0 i) (hc1 : ¬cond0_1 i) (hc2 : cond0_2 i)
    (x0 : Vec F S32x128x64 .f32) (x1 : Vec F S512x128 .f32) (x2 : Vec F S32x1 .i32) (xo3 : Vec F S32x128 .f32) (xo4 : Vec F S32x128 .i32) (xs1 : Vec F S32x80x1024 .f32) :
    Σ' (L3 : List (View.Piece (Elt F) S32x128 .f32)), Σ' (L4 : List (View.Piece (Elt F) S32x128 .i32)), Σ' (LS1 : List (View.Piece (Elt F) S32x80x1024 .f32)), { LT0 : List (View.Piece (Elt F) S32x128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ (∃ d, owns (c : Thread nD τ) arg6 fullShare d) ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0) ∗ owns (c : Thread nD τ) arg7 fullShare xs1) -∗ K ⟨⟩))
          ⊢ wp frame (wpE (defs₀ (F := F)) Variants.none c none) E (cc0__phase1 i arg1 harg1 arg2 harg2 arg3 harg3 arg4 harg4 arg5 harg5 arg6 harg6 arg7 harg7) K } := by
  refine ⟨?_, ?_, [], ?_, fun E K => ?run⟩
  case run =>
    simp only [cc0__phase1_eq_skeleton]; unfold cc0__phase1_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; isplitr; · ipureintro; exact harg7.read_unread _
    iexact HS1

end Cert.KernelIdeal.Own

end
-- ==== Proof.KernelIdealFirstFrame.lean ====
/- The first region: what its buffers hold after each grid point, and that the body takes each point's contents to the next. -/
module

public import proofs.«01_k».proof.Proof.KernelIdealFirst

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-- Case A's pieces for output 3 tile its block (1 store of `S32x128`, checked by the kernel's evaluation: `Piece.tiledL`, linear in the pieces, through a loop's `@[irreducible]` trip theorem too), so they cover it. -/
theorem cover0_A_3 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : cond0_0 i) (hc1 : cond0_1 i) (hc2 : ¬cond0_2 i)
    (x0 : Vec F S32x128x64 .f32) (x1 : Vec F S512x128 .f32) (x2 : Vec F S32x1 .i32) (y : S32x128.Idx) :
    ∃ pc ∈ (kernelRun0_A c i arg1 harg1 arg2 harg2 arg3 harg3 arg4 harg4 arg5 harg5 arg6 harg6 arg7 harg7 hc0 hc1 hc2 x0 x1 x2).1, y ∈ pc.1.set :=
  View.cover_of_tiledL (kernelRun0_A c i arg1 harg1 arg2 harg2 arg3 harg3 arg4 harg4 arg5 harg5 arg6 harg6 arg7 harg7 hc0 hc1 hc2 x0 x1 x2).1 S32x128.size (by sl_kernel_rfl) y

/-- What case A leaves in output 3's staging buffer: its pieces read back over junk. -/
def out0_A_3 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : cond0_0 i) (hc1 : cond0_1 i) (hc2 : ¬cond0_2 i)
    (x0 : Vec F S32x128x64 .f32) (x1 : Vec F S512x128 .f32) (x2 : Vec F S32x1 .i32) : Vec F S32x128 .f32 :=
  VO0_3.read (Elt F) (VO0_3.writes (Elt F) VO0_3.junk (kernelRun0_A c i arg1 harg1 arg2 harg2 arg3 harg3 arg4 harg4 arg5 harg5 arg6 harg6 arg7 harg7 hc0 hc1 hc2 x0 x1 x2).1)

/-- Case A's pieces for output 4 tile its block (1 store of `S32x128`, checked by the kernel's evaluation: `Piece.tiledL`, linear in the pieces, through a loop's `@[irreducible]` trip theorem too), so they cover it. -/
theorem cover0_A_4 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : cond0_0 i) (hc1 : cond0_1 i) (hc2 : ¬cond0_2 i)
    (x0 : Vec F S32x128x64 .f32) (x1 : Vec F S512x128 .f32) (x2 : Vec F S32x1 .i32) (y : S32x128.Idx) :
    ∃ pc ∈ (kernelRun0_A c i arg1 harg1 arg2 harg2 arg3 harg3 arg4 harg4 arg5 harg5 arg6 harg6 arg7 harg7 hc0 hc1 hc2 x0 x1 x2).2.1, y ∈ pc.1.set :=
  View.cover_of_tiledL (kernelRun0_A c i arg1 harg1 arg2 harg2 arg3 harg3 arg4 harg4 arg5 harg5 arg6 harg6 arg7 harg7 hc0 hc1 hc2 x0 x1 x2).2.1 S32x128.size (by sl_kernel_rfl) y

/-- What case A leaves in output 4's staging buffer: its pieces read back over junk. -/
def out0_A_4 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : cond0_0 i) (hc1 : cond0_1 i) (hc2 : ¬cond0_2 i)
    (x0 : Vec F S32x128x64 .f32) (x1 : Vec F S512x128 .f32) (x2 : Vec F S32x1 .i32) : Vec F S32x128 .i32 :=
  VO0_4.read (Elt F) (VO0_4.writes (Elt F) VO0_4.junk (kernelRun0_A c i arg1 harg1 arg2 harg2 arg3 harg3 arg4 harg4 arg5 harg5 arg6 harg6 arg7 harg7 hc0 hc1 hc2 x0 x1 x2).2.1)

/-- Case A's pieces for scratch `arg7`, which the kernel carries between points, cover it: one of them a store of the WHOLE buffer . -/
theorem scover0_A_1 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : cond0_0 i) (hc1 : cond0_1 i) (hc2 : ¬cond0_2 i)
    (x0 : Vec F S32x128x64 .f32) (x1 : Vec F S512x128 .f32) (x2 : Vec F S32x1 .i32) (y : S32x80x1024.Idx) :
    ∃ pc ∈ (kernelRun0_A c i arg1 harg1 arg2 harg2 arg3 harg3 arg4 harg4 arg5 harg5 arg6 harg6 arg7 harg7 hc0 hc1 hc2 x0 x1 x2).2.2.1, y ∈ pc.1.set :=
  View.cover_of_wholeMem (kernelRun0_A c i arg1 harg1 arg2 harg2 arg3 harg3 arg4 harg4 arg5 harg5 arg6 harg6 arg7 harg7 hc0 hc1 hc2 x0 x1 x2).2.2.1 (by sl_whole_mem) y

/-- What case A leaves in scratch `arg7`: its pieces read back over junk. -/
def sout0_A_1 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : cond0_0 i) (hc1 : cond0_1 i) (hc2 : ¬cond0_2 i)
    (x0 : Vec F S32x128x64 .f32) (x1 : Vec F S512x128 .f32) (x2 : Vec F S32x1 .i32) : Vec F S32x80x1024 .f32 :=
  VS0_1.read (Elt F) (VS0_1.writes (Elt F) VS0_1.junk (kernelRun0_A c i arg1 harg1 arg2 harg2 arg3 harg3 arg4 harg4 arg5 harg5 arg6 harg6 arg7 harg7 hc0 hc1 hc2 x0 x1 x2).2.2.1)

/-- Case B's pieces for output 3 tile its block (1 store of `S32x128`, checked by the kernel's evaluation: `Piece.tiledL`, linear in the pieces, through a loop's `@[irreducible]` trip theorem too), so they cover it. -/
theorem cover0_B_3 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : ¬cond0_0 i) (hc1 : ¬cond0_1 i) (hc2 : cond0_2 i)
    (x0 : Vec F S32x128x64 .f32) (x1 : Vec F S512x128 .f32) (x2 : Vec F S32x1 .i32) (xo3 : Vec F S32x128 .f32) (xo4 : Vec F S32x128 .i32) (xs1 : Vec F S32x80x1024 .f32) (y : S32x128.Idx) :
    ∃ pc ∈ (kernelRun0_B c i arg1 harg1 arg2 harg2 arg3 harg3 arg4 harg4 arg5 harg5 arg6 harg6 arg7 harg7 hc0 hc1 hc2 x0 x1 x2 xo3 xo4 xs1).1, y ∈ pc.1.set :=
  View.cover_of_tiledL (kernelRun0_B c i arg1 harg1 arg2 harg2 arg3 harg3 arg4 harg4 arg5 harg5 arg6 harg6 arg7 harg7 hc0 hc1 hc2 x0 x1 x2 xo3 xo4 xs1).1 S32x128.size (by sl_kernel_rfl) y

/-- What case B leaves in output 3's staging buffer: its pieces read back over junk. -/
def out0_B_3 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : ¬cond0_0 i) (hc1 : ¬cond0_1 i) (hc2 : cond0_2 i)
    (x0 : Vec F S32x128x64 .f32) (x1 : Vec F S512x128 .f32) (x2 : Vec F S32x1 .i32) (xo3 : Vec F S32x128 .f32) (xo4 : Vec F S32x128 .i32) (xs1 : Vec F S32x80x1024 .f32) : Vec F S32x128 .f32 :=
  VO0_3.read (Elt F) (VO0_3.writes (Elt F) VO0_3.junk (kernelRun0_B c i arg1 harg1 arg2 harg2 arg3 harg3 arg4 harg4 arg5 harg5 arg6 harg6 arg7 harg7 hc0 hc1 hc2 x0 x1 x2 xo3 xo4 xs1).1)

/-- Case B's pieces for output 4 tile its block (1 store of `S32x128`, checked by the kernel's evaluation: `Piece.tiledL`, linear in the pieces, through a loop's `@[irreducible]` trip theorem too), so they cover it. -/
theorem cover0_B_4 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : ¬cond0_0 i) (hc1 : ¬cond0_1 i) (hc2 : cond0_2 i)
    (x0 : Vec F S32x128x64 .f32) (x1 : Vec F S512x128 .f32) (x2 : Vec F S32x1 .i32) (xo3 : Vec F S32x128 .f32) (xo4 : Vec F S32x128 .i32) (xs1 : Vec F S32x80x1024 .f32) (y : S32x128.Idx) :
    ∃ pc ∈ (kernelRun0_B c i arg1 harg1 arg2 harg2 arg3 harg3 arg4 harg4 arg5 harg5 arg6 harg6 arg7 harg7 hc0 hc1 hc2 x0 x1 x2 xo3 xo4 xs1).2.1, y ∈ pc.1.set :=
  View.cover_of_tiledL (kernelRun0_B c i arg1 harg1 arg2 harg2 arg3 harg3 arg4 harg4 arg5 harg5 arg6 harg6 arg7 harg7 hc0 hc1 hc2 x0 x1 x2 xo3 xo4 xs1).2.1 S32x128.size (by sl_kernel_rfl) y

/-- What case B leaves in output 4's staging buffer: its pieces read back over junk. -/
def out0_B_4 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : ¬cond0_0 i) (hc1 : ¬cond0_1 i) (hc2 : cond0_2 i)
    (x0 : Vec F S32x128x64 .f32) (x1 : Vec F S512x128 .f32) (x2 : Vec F S32x1 .i32) (xo3 : Vec F S32x128 .f32) (xo4 : Vec F S32x128 .i32) (xs1 : Vec F S32x80x1024 .f32) : Vec F S32x128 .i32 :=
  VO0_4.read (Elt F) (VO0_4.writes (Elt F) VO0_4.junk (kernelRun0_B c i arg1 harg1 arg2 harg2 arg3 harg3 arg4 harg4 arg5 harg5 arg6 harg6 arg7 harg7 hc0 hc1 hc2 x0 x1 x2 xo3 xo4 xs1).2.1)

/-- Case B stores nothing into scratch `arg7`: it holds what the point before left. -/
def sout0_B_1 (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole) (hc0 : ¬cond0_0 i) (hc1 : ¬cond0_1 i) (hc2 : cond0_2 i)
    (x0 : Vec F S32x128x64 .f32) (x1 : Vec F S512x128 .f32) (x2 : Vec F S32x1 .i32) (xo3 : Vec F S32x128 .f32) (xo4 : Vec F S32x128 .i32) (xs1 : Vec F S32x80x1024 .f32) : Vec F S32x80x1024 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S32x128 .f32 × Vec F S32x128 .i32 × Vec F S32x80x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 0 then
        if h2 : 1 ≤ (n + 1) then
          False.elim (by have hN : n + 1 < 4 := lt_of_lt_of_eq hn (show cfg0.N = 4 from N_0); omega)
        else
          (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk0 V c 0 ⟨n + 1, hn⟩) (iblk0 V c 1 ⟨n + 1, hn⟩) (iblk0 V c 2 ⟨n + 1, hn⟩))
      else
        False.elim (by have hN : n + 1 < 4 := lt_of_lt_of_eq hn (show cfg0.N = 4 from N_0); omega)
    else
      if h1 : (n + 1) % 4 = 0 then
        False.elim (by have hN : n + 1 < 4 := lt_of_lt_of_eq hn (show cfg0.N = 4 from N_0); omega)
      else
        if h2 : 1 ≤ (n + 1) then
          (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2.1 (outsAt0 c n (Nat.lt_of_succ_lt hn)).2.2)
        else
          False.elim (by have hN : n + 1 < 4 := lt_of_lt_of_eq hn (show cfg0.N = 4 from N_0); omega)

/-- `outsAt0` at a point of case A: that case's contents. -/
theorem outsAt0_A (c : Dev nD) (t : Fin cfg0.N) (h0 : t.val % 4 = 0) (h1 : t.val % 4 = 0) (h2 : ¬1 ≤ t.val) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (iblk0 V c 0 t) (iblk0 V c 1 t) (iblk0 V c 2 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 4 = 0) (h1 : ¬t.val % 4 = 0) (h2 : 1 ≤ t.val) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's ; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 V c n hn).2.2) ∗ restB c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop((∃ d, owns (c : Thread nD τ) scM0_0 fullShare d) ∗ owns (c : Thread nD τ) scM0_1 fullShare ((outsAt0 V c n hn).2.2) ∗ restB c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop((∃ d, owns (c : Thread nD τ) scM0_0 fullShare d) ∗ owns (c : Thread nD τ) scM0_1 fullShare ((outsAt0 V c (n - 1) (by omega)).2.2) ∗ restB c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- Output 3's contents CARRY through the points that leave it idle: at such a point, its buffer not fresh, the proof data's
    `after` is the point before's (the case there stores nothing into the window and its term says so; a case that stores
    into it is not idle there by `liveAt0_3_κ`) — the hypothesis of `Dat.before_out_traj`. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  have hN : t.val < 4 := lt_of_lt_of_eq t.isLt (show cfg0.N = 4 from N_0)
  rw [after0_3, after0_3]
  by_cases h0 : t.val % 4 = 0
  · by_cases h1 : t.val % 4 = 0
    · by_cases h2 : 1 ≤ t.val
      · exfalso; omega
      · rw [liveAt0_3_A t ((hcond0_0 t).mpr h0) ((hcond0_1 t).mpr h1) (fun h => h2 ((hcond0_2 t).mp h))] at hi
        exact absurd hi Bool.false_ne_true
    · exfalso; omega
  · by_cases h1 : t.val % 4 = 0
    · exfalso; omega
    · by_cases h2 : 1 ≤ t.val
      · rw [liveAt0_3_B t (fun h => h0 ((hcond0_0 t).mp h)) (fun h => h1 ((hcond0_1 t).mp h)) ((hcond0_2 t).mpr h2)] at hi
        exact absurd hi Bool.false_ne_true
      · exfalso; omega

/-- Output 4's contents CARRY through the points that leave it idle: at such a point, its buffer not fresh, the proof data's
    `after` is the point before's (the case there stores nothing into the window and its term says so; a case that stores
    into it is not idle there by `liveAt0_4_κ`) — the hypothesis of `Dat.before_out_traj`. -/
theorem hcarry0_4 (c : Dev nD) : ∀ (t : Fin cfg0.N) (_ : t.val ≠ 0), cfg0.idle 4 (grid0.coords t) = true → cfg0.fresh 4 t.val = false →
    (dat0 V c).after 4 t = (dat0 V c).after 4 ⟨t.val - 1, by omega⟩ := by
  intro t _ hi _
  have hN : t.val < 4 := lt_of_lt_of_eq t.isLt (show cfg0.N = 4 from N_0)
  rw [after0_4, after0_4]
  by_cases h0 : t.val % 4 = 0
  · by_cases h1 : t.val % 4 = 0
    · by_cases h2 : 1 ≤ t.val
      · exfalso; omega
      · rw [liveAt0_4_A t ((hcond0_0 t).mpr h0) ((hcond0_1 t).mpr h1) (fun h => h2 ((hcond0_2 t).mp h))] at hi
        exact absurd hi Bool.false_ne_true
    · exfalso; omega
  · by_cases h1 : t.val % 4 = 0
    · exfalso; omega
    · by_cases h2 : 1 ≤ t.val
      · rw [liveAt0_4_B t (fun h => h0 ((hcond0_0 t).mp h)) (fun h => h1 ((hcond0_1 t).mp h)) ((hcond0_2 t).mpr h2)] at hi
        exact absurd hi Bool.false_ne_true
      · exfalso; omega
/-- At a point of case B output 3's current staging buffer holds what the point before left: the buffer is not fresh
    there (`notFresh0_3_B`: stored into since the region's entry or the last write-back, carried through the points that
    leave it idle by `hcarry0_3`; `Dat.before_out_traj`). -/
theorem before0_3_B (c : Dev nD) (t : Fin cfg0.N) (h0 : ¬t.val % 4 = 0) (h1 : ¬t.val % 4 = 0) (h2 : 1 ≤ t.val) (d) :
    (dat0 V c).before 3 t d = (outsAt0 V c (t.val - 1) (Nat.lt_of_le_of_lt (Nat.sub_le _ _) t.isLt)).1 := by
  rw [Dat.before_out_traj _ 3 rfl (fun _ _ => rfl) (hcarry0_3 V c) t.val t rfl d,
    if_neg (by rw [notFresh0_3_B t (fun h => h0 ((hcond0_0 t).mp h)) (fun h => h1 ((hcond0_1 t).mp h)) ((hcond0_2 t).mpr h2)]; exact Bool.false_ne_true)]
  dsimp only [dat0]
/-- At a point of case B output 4's current staging buffer holds what the point before left: the buffer is not fresh
    there (`notFresh0_4_B`: stored into since the region's entry or the last write-back, carried through the points that
    leave it idle by `hcarry0_4`; `Dat.before_out_traj`). -/
theorem before0_4_B (c : Dev nD) (t : Fin cfg0.N) (h0 : ¬t.val % 4 = 0) (h1 : ¬t.val % 4 = 0) (h2 : 1 ≤ t.val) (d) :
    (dat0 V c).before 4 t d = (outsAt0 V c (t.val - 1) (Nat.lt_of_le_of_lt (Nat.sub_le _ _) t.isLt)).2.1 := by
  rw [Dat.before_out_traj _ 4 rfl (fun _ _ => rfl) (hcarry0_4 V c) t.val t rfl d,
    if_neg (by rw [notFresh0_4_B t (fun h => h0 ((hcond0_0 t).mp h)) (fun h => h1 ((hcond0_1 t).mp h)) ((hcond0_2 t).mpr h2)]; exact Bool.false_ne_true)]
  dsimp only [dat0]

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 4 := lt_of_lt_of_eq t.isLt (show cfg0.N = 4 from N_0)
  by_cases h0 : t.val % 4 = 0
  · by_cases h1 : t.val % 4 = 0
    · by_cases h2 : 1 ≤ t.val
      · exfalso; omega
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3_A t ((hcond0_0 t).mpr h0) ((hcond0_1 t).mpr h1) (fun h => h2 ((hcond0_2 t).mp h))], after0_3]
        rw [show (dat0 V c).leavesExact 4 t = owns (c : Thread nD τ) (ms0_4 t) fullShare ((dat0 V c).after 4 t) from by
      unfold Dat.leavesExact; rw [liveAt0_4_A t ((hcond0_0 t).mpr h0) ((hcond0_1 t).mpr h1) (fun h => h2 ((hcond0_2 t).mp h))], after0_4]
        by_cases hz : t.val = 0
        · rw [PhiS_castSucc V c t, PhiS_zero V c _ _ hz, PhiA0_eq]
          rw [outsAt0_A V c t h0 h1 h2]
          unfold out0_A_3 out0_A_4 sout0_A_1; (try dsimp only)
          iintro ⟨⟨⟨HS0, HS1, HR⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ ((hcond0_0 t).mpr h0) ((hcond0_1 t).mpr h1) (fun h => h2 ((hcond0_2 t).mp h)) (iblk0 V c 0 t) (iblk0 V c 1 t) (iblk0 V c 2 t)).2.2.2.2 Set.univ _)
          isplitl [H0]; · iexact H0
          isplitl [H1]; · iexact H1
          isplitl [H2]; · iexact H2
          isplitl [H3]; · iexists _; iexact H3
          isplitl [H4]; · iexists _; iexact H4
          isplitl [HS0]; · iexact HS0
          isplitl [HS1]; · iexact HS1
          iintro ⟨H0, H1, H2, ⟨%e3, H3⟩, ⟨%e4, H4⟩, ⟨%fT0, HS0⟩, ⟨%es1, HS1⟩⟩
          isplitl [HS0 HS1 HR Hg]
          · isplitl [HS0 HS1 HR]
            · isplitl [HS0]
              · iexists _; unfold owns; iexists _; isplitr
                swap; · iexact HS0
                ipureintro; rfl
              isplitl [HS1]
              · unfold owns; iexists _; isplitr
                swap; · iexact HS1
                ipureintro; exact View.read_writes_of_cover _ _ _ _ _ (scover0_A_1 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 c _ _ _ _ _ _ _ _ _ _ _ _ _ _ _ _ _ _ _ _ _)
          unfold owns; iexists _; isplitr
          swap; · iexact H4
          ipureintro; exact View.read_writes_of_cover _ _ _ _ _ (cover0_A_4 c _ _ _ _ _ _ _ _ _ _ _ _ _ _ _ _ _ _ _ _ _)
        · exfalso; have hN : t.val < 4 := lt_of_lt_of_eq t.isLt (show cfg0.N = 4 from N_0); omega
    · exfalso; omega
  · by_cases h1 : t.val % 4 = 0
    · exfalso; omega
    · by_cases h2 : 1 ≤ t.val
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3_B t (fun h => h0 ((hcond0_0 t).mp h)) (fun h => h1 ((hcond0_1 t).mp h)) ((hcond0_2 t).mpr h2)], after0_3]
        rw [show (dat0 V c).leavesExact 4 t = owns (c : Thread nD τ) (ms0_4 t) fullShare ((dat0 V c).after 4 t) from by
      unfold Dat.leavesExact; rw [liveAt0_4_B t (fun h => h0 ((hcond0_0 t).mp h)) (fun h => h1 ((hcond0_1 t).mp h)) ((hcond0_2 t).mpr h2)], after0_4]
        by_cases hz : t.val = 0
        · exfalso; have hN : t.val < 4 := lt_of_lt_of_eq t.isLt (show cfg0.N = 4 from N_0); omega
        · rw [PhiS_castSucc V c t, PhiS_pos V c _ _ hz]
          rw [outsAt0_B V c t h0 h1 h2]
          simp only [before0_3_B V c t h0 h1 h2, before0_4_B V c t h0 h1 h2]
          unfold out0_B_3 out0_B_4 sout0_B_1; (try dsimp only)
          iintro ⟨⟨⟨HS0, HS1, HR⟩, Hg⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ (fun h => h0 ((hcond0_0 t).mp h)) (fun h => h1 ((hcond0_1 t).mp h)) ((hcond0_2 t).mpr h2) (iblk0 V c 0 t) (iblk0 V c 1 t) (iblk0 V c 2 t) _ _ _).2.2.2.2 Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iintro ⟨H0, H1, H2, ⟨%e3, H3⟩, ⟨%e4, H4⟩, ⟨%fT0, HS0⟩, HS1⟩
          isplitl [HS0 HS1 HR Hg]
          · isplitl [HS0 HS1 HR]
            · isplitl [HS0]
              · iexists _; unfold owns; iexists _; isplitr
                swap; · iexact HS0
                ipureintro; rfl
              isplitl [HS1]; · iexact HS1
              iexact HR
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_B_3 c _ _ _ _ _ _ _ _ _ _ _ _ _ _ _ _ _ _ _ _ _ _ _ _)
          unfold owns; iexists _; isplitr
          swap; · iexact H4
          ipureintro; exact View.read_writes_of_cover _ _ _ _ _ (cover0_B_4 c _ _ _ _ _ _ _ _ _ _ _ _ _ _ _ _ _ _ _ _ _ _ _ _)
      · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]
    · iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out V c _ (by rw [Fin.val_last]; have : cfg0.N = 4 := N_0; omega)

end Cert.KernelIdeal.Own

end
-- ==== Proof.KernelIdealTile.lean ====
/- The first region's body, its stores read back: what one grid point leaves in the windows of the running maximum and of
   its position, as an expression in the point's blocks and in the rearranged input the scratch carries. -/
module

public import proofs.«01_k».proof.Proof.KernelIdealFirstFrame
public import Idealize.ShloMosaic.Lib.Pipeline.Value
public import Idealize.ShloMosaic.Lib.Pipeline.ValueKit.Basic

@[expose] public section

set_option maxRecDepth 16384

noncomputable section

namespace Cert.KernelIdeal.Own

open Cert.KernelIdeal.Gen
open Idealize.ShloMosaic Idealize.ShloMosaic.TcCoe
open Idealize.ShloMosaic.Pipeline (Dat Cfg Window)

variable {F : FTy → Type} [FloatOps F]

/-- The contents after one more store through a unit rectangle: the stored value inside it, the earlier contents outside. -/
theorem canon_box {S : Shape} {e : EltTy} {off size : Fin S.rank → ℕ} (inb : ∀ a, off a + size a ≤ S.size a)
    (w : (Rect.unit off size inb).shape.Idx → Elt F e) (L : List (View.Piece (Elt F) S e)) (y : S.Idx) :
    View.canon (⟨Rect.unit off size inb, w⟩ :: L) y
      = if h : ∀ a, off a ≤ y a ∧ (y a : ℕ) < off a + size a then
          w (fun a => ⟨(y a : ℕ) - off a, by have := h a; show _ < size a; omega⟩)
        else View.canon L y := by
  split
  · rename_i h
    have e := View.canon_cons_emb (Rect.unit off size inb) w L
      (fun a => ⟨(y a : ℕ) - off a, by have := h a; show _ < size a; omega⟩)
    rw [← e]
    congr 1
    funext a
    apply Fin.ext
    show (y a : ℕ) = off a + 1 * ((y a : ℕ) - off a)
    have := h a
    omega
  · rename_i h
    exact View.canon_cons_of_not_mem _ _ (fun hm => h ((Rect.mem_set_unit (inb := inb)).mp hm))

/-- The weights' kernel at the lag whose constant part has the bits `cst`, from the repeated transposed weights `v5`. -/
def tapv (cst : BitVec 32) (v5 : FVec F S1024x512 .f32) : FVec F S1024x512 .f32 :=
  maximumf (broadcast S1024x512 (Scalar.ofBits .f32 0x00000000#32))
    (minimumf
      (divf (subf (broadcast S1024x512 (Scalar.ofBits .f32 cst)) (k0_pay18 (F := F))) (broadcast S1024x512 (Scalar.ofBits .f32 0x41800000#32)))
      (addf (divf (subf (broadcast S1024x512 (Scalar.ofBits .f32 0x00000000#32))
          (subf (subf (broadcast S1024x512 (Scalar.ofBits .f32 cst)) (k0_pay18 (F := F)))
            (mulf v5 (broadcast S1024x512 (Scalar.ofBits .f32 0x41800000#32)))))
        (broadcast S1024x512 (Scalar.ofBits .f32 0x42000000#32))) v5))

/-- One group's product: the rearranged input times the group's kernel, as a block of 80 rows. -/
def grp (cst : BitVec 32) (v5 : FVec F S1024x512 .f32) (v33 : FVec F S2560x1024 .f32) : FVec F S32x80x512 .f32 :=
  shapeCast S32x80x512 (matmul dot_S2560x1024_S1024x512_S2560x512_1_0_0_1_n_n none v33 (tapv cst v5)
    (constant S2560x512 .f32 0x00000000#32)) shapeCasts_S2560x512_S32x80x512

abbrev R40 : Rect S32x128x512 := Rect.unit ![0, 40, 0] S32x80x512.size inb_S32x128x512_S32x80x512_0_40_0
abbrev R120 : Rect S32x128x512 := Rect.unit ![0, 120, 0] S32x8x512.size inb_S32x128x512_S32x8x512_0_120_0
abbrev R0z : Rect S32x128x512 := Rect.unit ![0, 0, 0] S32x40x512.size inb_S32x128x512_S32x40x512_0_0_0
abbrev R32 : Rect S32x128x512 := Rect.unit ![0, 32, 0] S32x80x512.size inb_S32x128x512_S32x80x512_0_32_0
abbrev R24 : Rect S32x128x512 := Rect.unit ![0, 24, 0] S32x80x512.size inb_S32x128x512_S32x80x512_0_24_0
abbrev R16 : Rect S32x128x512 := Rect.unit ![0, 16, 0] S32x80x512.size inb_S32x128x512_S32x80x512_0_16_0
abbrev R8 : Rect S32x128x512 := Rect.unit ![0, 8, 0] S32x80x512.size inb_S32x128x512_S32x80x512_0_8_0
abbrev R0 : Rect S32x128x512 := Rect.unit ![0, 0, 0] S32x80x512.size inb_S32x128x512_S32x80x512_0_0_0

/-- The accumulator after the first group's stores. -/
def acc3 (v5 : FVec F S1024x512 .f32) (v33 : FVec F S2560x1024 .f32) : List (View.Piece (Elt F) S32x128x512 .f32) :=
  [⟨R40, shapeCast S32x80x512 (grp 0x423C0000#32 v5 v33) shapeCasts_S32x80x512_S32x80x512⟩, ⟨R120, k0_pay24⟩, ⟨R0z, k0_pay23⟩]

/-- One more group's store over the accumulator's contents `L`: the rows of the rectangle get the group's product added. -/
def accStep (cst : BitVec 32) (v5 : FVec F S1024x512 .f32) (v33 : FVec F S2560x1024 .f32) (off : Fin 3 → ℕ)
    (inb : ∀ a, off a + S32x80x512.size a ≤ S32x128x512.size a) (L : List (View.Piece (Elt F) S32x128x512 .f32)) :
    List (View.Piece (Elt F) S32x128x512 .f32) :=
  ⟨Rect.unit (s := S32x128x512) off S32x80x512.size inb,
    shapeCast S32x80x512 (addf (fun j => View.canon L ((Rect.unit (s := S32x128x512) off S32x80x512.size inb).toLoadRect.idx j)) (grp cst v5 v33))
      shapeCasts_S32x80x512_S32x80x512⟩ :: L

/-- The accumulator after the second group. -/
def acc4 (v5 : FVec F S1024x512 .f32) (v33 : FVec F S2560x1024 .f32) : List (View.Piece (Elt F) S32x128x512 .f32) :=
  accStep 0x421C0000#32 v5 v33 ![0, 32, 0] inb_S32x128x512_S32x80x512_0_32_0 (acc3 v5 v33)
/-- The accumulator after the third group. -/
def acc5 (v5 : FVec F S1024x512 .f32) (v33 : FVec F S2560x1024 .f32) : List (View.Piece (Elt F) S32x128x512 .f32) :=
  accStep 0x41F80000#32 v5 v33 ![0, 24, 0] inb_S32x128x512_S32x80x512_0_24_0 (acc4 v5 v33)
/-- The accumulator after the fourth group. -/
def acc6 (v5 : FVec F S1024x512 .f32) (v33 : FVec F S2560x1024 .f32) : List (View.Piece (Elt F) S32x128x512 .f32) :=
  accStep 0x41B80000#32 v5 v33 ![0, 16, 0] inb_S32x128x512_S32x80x512_0_16_0 (acc5 v5 v33)
/-- The accumulator after the fifth group. -/
def acc7 (v5 : FVec F S1024x512 .f32) (v33 : FVec F S2560x1024 .f32) : List (View.Piece (Elt F) S32x128x512 .f32) :=
  accStep 0x41700000#32 v5 v33 ![0, 8, 0] inb_S32x128x512_S32x80x512_0_8_0 (acc6 v5 v33)
/-- The accumulator after all six groups. -/
def acc8 (v5 : FVec F S1024x512 .f32) (v33 : FVec F S2560x1024 .f32) : List (View.Piece (Elt F) S32x128x512 .f32) :=
  accStep 0x40E00000#32 v5 v33 ![0, 0, 0] inb_S32x128x512_S32x80x512_0_0_0 (acc7 v5 v33)

/-- A point's potentials before the label term, from its block of weights and the rearranged input. -/
def potv (x1 : Vec F S512x128 .f32) (xs : Vec F S32x80x1024 .f32) : FVec F S32x128x512 .f32 :=
  View.canon (acc8 (k0_pay17 x1) (k0_pay19 xs))

/-- The rearranged input the first point stores in the scratch, from the input block. -/
def xsv (x0 : Vec F S32x128x64 .f32) : Vec F S32x80x1024 .f32 :=
  View.canon [⟨Rect.unit (s := S32x80x1024) ![0, 0, 896] S32x64x128.size inb_S32x80x1024_S32x64x128_0_0_896, k0_pay16 (k0_pay7 x0)⟩,
    ⟨Rect.unit (s := S32x80x1024) ![0, 1, 768] S32x64x128.size inb_S32x80x1024_S32x64x128_0_1_768, k0_pay15 (k0_pay7 x0)⟩,
    ⟨Rect.unit (s := S32x80x1024) ![0, 2, 640] S32x64x128.size inb_S32x80x1024_S32x64x128_0_2_640, k0_pay14 x0⟩,
    ⟨Rect.unit (s := S32x80x1024) ![0, 3, 512] S32x64x128.size inb_S32x80x1024_S32x64x128_0_3_512, k0_pay13 x0⟩,
    ⟨Rect.unit (s := S32x80x1024) ![0, 4, 384] S32x64x128.size inb_S32x80x1024_S32x64x128_0_4_384, k0_pay12 x0⟩,
    ⟨Rect.unit (s := S32x80x1024) ![0, 5, 256] S32x64x128.size inb_S32x80x1024_S32x64x128_0_5_256, k0_pay11 x0⟩,
    ⟨Rect.unit (s := S32x80x1024) ![0, 6, 128] S32x64x128.size inb_S32x80x1024_S32x64x128_0_6_128, k0_pay10 x0⟩,
    ⟨Rect.unit (s := S32x80x1024) ![0, 7, 0] S32x64x128.size inb_S32x80x1024_S32x64x128_0_7_0, k0_pay9 x0⟩,
    ⟨Rect.unit (s := S32x80x1024) ![0, 0, 0] S32x80x1024.size inb_S32x80x1024_S32x80x1024_0_0_0, k0_pay8⟩]

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a whole buffer reads the contents it is held at. -/
theorem readAt_whole {κ : Kind} {sp : Space} {S : Shape} {e : EltTy} (m : Memref sig κ sp S e) (hm : m.IsWhole) {off : Fin S.rank → ℕ}
    (h : off = fun _ => 0) (inb : ∀ a, off a + S.size a ≤ S.size a) (x : S.Idx → Elt F e) :
    View.readAt (Elt F) m.view (Rect.unit off S.size inb).toLoadRect (hm.unread x) = x := by
  rw [View.readAt_eq_ld, Memref.IsWhole.read_unread]
  exact View.ld_unit_zero h inb x

/-- A load of a whole buffer after some stores reads what they leave. -/
theorem readCov_whole {κ : Kind} {sp : Space} {S : Shape} {e : EltTy} (v : View sig κ sp S e) (L : List (View.Piece (Elt F) S e))
    {off : Fin S.rank → ℕ} (h : off = fun _ => 0) (inb : ∀ a, off a + S.size a ≤ S.size a) :
    v.readCov L (Rect.unit off S.size inb).toLoadRect = View.canon L := by
  rw [View.readCov_eq_canon']
  exact View.ld_unit_zero h inb (View.canon L)

section
variable (c : Dev nD) (i : grid0.Coords) (arg1 : Memref sig .tc .vmem S32x128x64 .f32) (harg1 : arg1.IsWhole) (arg2 : Memref sig .tc .vmem S512x128 .f32) (harg2 : arg2.IsWhole) (arg3 : Memref sig .tc .vmem S32x1 .i32) (harg3 : arg3.IsWhole) (arg4 : Memref sig .tc .vmem S32x128 .f32) (harg4 : arg4.IsWhole) (arg5 : Memref sig .tc .vmem S32x128 .i32) (harg5 : arg5.IsWhole) (arg6 : Memref sig .tc .vmem S32x128x512 .f32) (harg6 : arg6.IsWhole) (arg7 : Memref sig .tc .vmem S32x80x1024 .f32) (harg7 : arg7.IsWhole)
    (x0 : Vec F S32x128x64 .f32) (x1 : Vec F S512x128 .f32) (x2 : Vec F S32x1 .i32) (xo3 : Vec F S32x128 .f32) (xo4 : Vec F S32x128 .i32) (xs1 : Vec F S32x80x1024 .f32)

/-- At a later point the potentials are read off the scratch as it was left. -/
theorem pot_B : kernelRun0_B.sl.v180 c arg2 harg2 arg6 arg7 harg7 x1 xs1 = potv x1 xs1 := by
  have e1 : kernelRun0_B.sl.r c arg2 harg2 x1 = k0_pay17 x1 := by unfold kernelRun0_B.sl.r; rw [readAt_whole _ _ hz2]
  have e2 : kernelRun0_B.sl.r_1 c arg7 harg7 xs1 = k0_pay19 xs1 := by unfold kernelRun0_B.sl.r_1; rw [readAt_whole _ _ hz3]
  have e3 : kernelRun0_B.sl.HS0_3 c arg2 harg2 arg7 harg7 x1 xs1 = acc3 (k0_pay17 x1) (k0_pay19 xs1) := by
    unfold kernelRun0_B.sl.HS0_3 kernelRun0_B.sl.r_2; rw [e1, e2, readAt_whole _ _ hz2]; rfl
  have e4 : kernelRun0_B.sl.HS0_4 c arg2 harg2 arg6 arg7 harg7 x1 xs1 = acc4 (k0_pay17 x1) (k0_pay19 xs1) := by
    unfold kernelRun0_B.sl.HS0_4 kernelRun0_B.sl.r_3 kernelRun0_B.sl.v78; rw [e1, e2, e3, View.readCov_eq_canon']; rfl
  have e5 : kernelRun0_B.sl.HS0_5 c arg2 harg2 arg6 arg7 harg7 x1 xs1 = acc5 (k0_pay17 x1) (k0_pay19 xs1) := by
    unfold kernelRun0_B.sl.HS0_5 kernelRun0_B.sl.v100; rw [e1, e2, e4, View.readCov_eq_canon']; rfl
  have e6 : kernelRun0_B.sl.HS0_6 c arg2 harg2 arg6 arg7 harg7 x1 xs1 = acc6 (k0_pay17 x1) (k0_pay19 xs1) := by
    unfold kernelRun0_B.sl.HS0_6 kernelRun0_B.sl.r_4 kernelRun0_B.sl.r_5 kernelRun0_B.sl.r_6 kernelRun0_B.sl.v122
    rw [e1, e2, e5, View.readCov_eq_canon']; rfl
  have e7 : kernelRun0_B.sl.HS0_7 c arg2 harg2 arg6 arg7 harg7 x1 xs1 = acc7 (k0_pay17 x1) (k0_pay19 xs1) := by
    unfold kernelRun0_B.sl.HS0_7 kernelRun0_B.sl.r_7 kernelRun0_B.sl.v144; rw [e1, e2, e6, View.readCov_eq_canon']; rfl
  have e8 : kernelRun0_B.sl.HS0_8 c arg2 harg2 arg6 arg7 harg7 x1 xs1 = acc8 (k0_pay17 x1) (k0_pay19 xs1) := by
    unfold kernelRun0_B.sl.HS0_8 kernelRun0_B.sl.v166; rw [e1, e2, e7, View.readCov_eq_canon']; rfl
  unfold kernelRun0_B.sl.v180
  rw [e8]
  exact readCov_whole _ _ hz3 _

/-- At the first point the scratch holds the rearranged input. -/
theorem xs_A : View.canon (kernelRun0_A.sl.HS1_9 c arg1 harg1 x0) = xsv x0 := by
  unfold kernelRun0_A.sl.HS1_9 kernelRun0_A.sl.r xsv; rw [readAt_whole _ _ hz3]

/-- At the first point the potentials are read off the rearranged input just stored. -/
theorem pot_A : kernelRun0_A.sl.v180 c arg1 harg1 arg2 harg2 arg6 arg7 x0 x1 = potv x1 (xsv x0) := by
  have e1 : kernelRun0_A.sl.r_1 c arg2 harg2 x1 = k0_pay17 x1 := by unfold kernelRun0_A.sl.r_1; rw [readAt_whole _ _ hz2]
  have e2 : kernelRun0_A.sl.r_2 c arg1 harg1 arg7 x0 = k0_pay19 (xsv x0) := by
    unfold kernelRun0_A.sl.r_2 kernelRun0_A.sl.v32; rw [readCov_whole _ _ hz3, xs_A]
  have e3 : kernelRun0_A.sl.HS0_3 c arg1 harg1 arg2 harg2 arg7 x0 x1 = acc3 (k0_pay17 x1) (k0_pay19 (xsv x0)) := by
    unfold kernelRun0_A.sl.HS0_3 kernelRun0_A.sl.r_3; rw [e1, e2, readAt_whole _ _ hz2]; rfl
  have e4 : kernelRun0_A.sl.HS0_4 c arg1 harg1 arg2 harg2 arg6 arg7 x0 x1 = acc4 (k0_pay17 x1) (k0_pay19 (xsv x0)) := by
    unfold kernelRun0_A.sl.HS0_4 kernelRun0_A.sl.r_4 kernelRun0_A.sl.v78; rw [e1, e2, e3, View.readCov_eq_canon']; rfl
  have e5 : kernelRun0_A.sl.HS0_5 c arg1 harg1 arg2 harg2 arg6 arg7 x0 x1 = acc5 (k0_pay17 x1) (k0_pay19 (xsv x0)) := by
    unfold kernelRun0_A.sl.HS0_5 kernelRun0_A.sl.v100; rw [e1, e2, e4, View.readCov_eq_canon']; rfl
  have e6 : kernelRun0_A.sl.HS0_6 c arg1 harg1 arg2 harg2 arg6 arg7 x0 x1 = acc6 (k0_pay17 x1) (k0_pay19 (xsv x0)) := by
    unfold kernelRun0_A.sl.HS0_6 kernelRun0_A.sl.r_5 kernelRun0_A.sl.r_6 kernelRun0_A.sl.r_7 kernelRun0_A.sl.v122
    rw [e1, e2, e5, View.readCov_eq_canon']; rfl
  have e7 : kernelRun0_A.sl.HS0_7 c arg1 harg1 arg2 harg2 arg6 arg7 x0 x1 = acc7 (k0_pay17 x1) (k0_pay19 (xsv x0)) := by
    unfold kernelRun0_A.sl.HS0_7 kernelRun0_A.sl.r_8 kernelRun0_A.sl.v144; rw [e1, e2, e6, View.readCov_eq_canon']; rfl
  have e8 : kernelRun0_A.sl.HS0_8 c arg1 harg1 arg2 harg2 arg6 arg7 x0 x1 = acc8 (k0_pay17 x1) (k0_pay19 (xsv x0)) := by
    unfold kernelRun0_A.sl.HS0_8 kernelRun0_A.sl.v166; rw [e1, e2, e7, View.readCov_eq_canon']; rfl
  unfold kernelRun0_A.sl.v180
  rw [e8]
  exact readCov_whole _ _ hz3 _

theorem lab_B : kernelRun0_B.sl.r_8 (F := F) c i arg3 harg3 x2 = k0_pay36 (F := F) (BitVec.ofNat 32 (i 0).val) x2 := by
  unfold kernelRun0_B.sl.r_8; rw [readAt_whole _ _ hz2]

theorem lab_A : kernelRun0_A.sl.r_9 (F := F) c i arg3 harg3 x2 = k0_pay36 (F := F) (BitVec.ofNat 32 (i 0).val) x2 := by
  unfold kernelRun0_A.sl.r_9; rw [readAt_whole _ _ hz2]

/-- The first point leaves its own maximum, -/
theorem outA3 (hc0 hc1 hc2) : out0_A_3 c i arg1 harg1 arg2 harg2 arg3 harg3 arg4 harg4 arg5 harg5 arg6 harg6 arg7 harg7 hc0 hc1 hc2 x0 x1 x2
    = k0_pay2 (potv x1 (xsv x0)) (k0_pay36 (BitVec.ofNat 32 (i 0).val) x2) := by
  unfold out0_A_3 kernelRun0_A
  dsimp only
  rw [View.read_writes_junk_eq_canon, pot_A, lab_A]
  exact View.canon_unit_zero hz2 _ _

/-- and its position, -/
theorem outA4 (hc0 hc1 hc2) : out0_A_4 c i arg1 harg1 arg2 harg2 arg3 harg3 arg4 harg4 arg5 harg5 arg6 harg6 arg7 harg7 hc0 hc1 hc2 x0 x1 x2
    = k0_pay3 (BitVec.ofNat 32 (i 0).val) (potv x1 (xsv x0)) (k0_pay36 (BitVec.ofNat 32 (i 0).val) x2) := by
  unfold out0_A_4 kernelRun0_A
  dsimp only
  rw [View.read_writes_junk_eq_canon, pot_A, lab_A]
  exact View.canon_unit_zero hz2 _ _

/-- and the rearranged input in the scratch. -/
theorem soutA1 (hc0 hc1 hc2) : sout0_A_1 c i arg1 harg1 arg2 harg2 arg3 harg3 arg4 harg4 arg5 harg5 arg6 harg6 arg7 harg7 hc0 hc1 hc2 x0 x1 x2
    = xsv x0 := by
  unfold sout0_A_1 kernelRun0_A
  dsimp only
  rw [View.read_writes_junk_eq_canon]
  exact xs_A c arg1 harg1 x0

/-- A later point leaves the running maximum, -/
theorem outB3 (hc0 hc1 hc2) : out0_B_3 c i arg1 harg1 arg2 harg2 arg3 harg3 arg4 harg4 arg5 harg5 arg6 harg6 arg7 harg7 hc0 hc1 hc2 x0 x1 x2 xo3 xo4 xs1
    = k0_pay6 (potv x1 xs1) (k0_pay36 (BitVec.ofNat 32 (i 0).val) x2) xo3 xo3 := by
  unfold out0_B_3 kernelRun0_B
  dsimp only
  rw [View.read_writes_junk_eq_canon, pot_B, lab_B, readAt_whole _ _ hz2]
  exact View.canon_unit_zero hz2 _ _

/-- and its position. -/
theorem outB4 (hc0 hc1 hc2) : out0_B_4 c i arg1 harg1 arg2 harg2 arg3 harg3 arg4 harg4 arg5 harg5 arg6 harg6 arg7 harg7 hc0 hc1 hc2 x0 x1 x2 xo3 xo4 xs1
    = k0_pay5 (BitVec.ofNat 32 (i 0).val) (potv x1 xs1) (k0_pay36 (BitVec.ofNat 32 (i 0).val) x2) xo3 xo4 := by
  unfold out0_B_4 kernelRun0_B
  dsimp only
  rw [View.read_writes_junk_eq_canon, pot_B, lab_B, readAt_whole _ _ hz2, readAt_whole _ _ hz2]
  exact View.canon_unit_zero hz2 _ _

end

end Cert.KernelIdeal.Own
end
-- ==== Proof.Spec.lean ====
/- The mathematics both programs compute, on extended reals: the neurons' potentials, their largest value and its first
   position, and the two spikes a depressed layer emits in a wave.  Nothing here mentions a program. -/
module

public import Idealize.ShloMosaic.Lib.Pointwise.Tactic
public import Idealize.ShloMosaic.Lib.IdealHost
public import Idealize.ShloMosaic.Lib.PlanTiles.Rows

@[expose] public section

set_option maxRecDepth 16384

noncomputable section

namespace Cert.Spec

open Idealize.ShloMosaic
open scoped BigOperators

/-! ### The constants -/

/-- The rise time of the response, sixteen. -/
def c16 : EReal := Ideal.ofBits .f32 0x41800000#32
/-- The decay time of the response, thirty-two. -/
def c32 : EReal := Ideal.ofBits .f32 0x42000000#32
/-- The firing threshold. -/
def theta : EReal := Ideal.ofBits .f32 0x414CCCCD#32
/-- The potential the label of a sample adds. -/
def six : EReal := ((6 : ℝ) : EReal)
/-- The real number of a whole lag. -/
def lag (k : ℤ) : EReal := ((k : ℝ) : EReal)

/-- The float word of six. -/
theorem six_bits : Ideal.ofBits .f32 0x40C00000#32 = six := by
  unfold six; simp [Ideal.ofBits, Ideal.ieee, -EReal.coe_mul]; norm_num
/-- The float word of 47. -/
theorem lag47_bits : Ideal.ofBits .f32 0x423C0000#32 = lag 47 := by
  unfold lag; simp [Ideal.ofBits, Ideal.ieee, -EReal.coe_mul]; norm_num
/-- The float word of 39. -/
theorem lag39_bits : Ideal.ofBits .f32 0x421C0000#32 = lag 39 := by
  unfold lag; simp [Ideal.ofBits, Ideal.ieee, -EReal.coe_mul]; norm_num
/-- The float word of 31. -/
theorem lag31_bits : Ideal.ofBits .f32 0x41F80000#32 = lag 31 := by
  unfold lag; simp [Ideal.ofBits, Ideal.ieee, -EReal.coe_mul]; norm_num
/-- The float word of 23. -/
theorem lag23_bits : Ideal.ofBits .f32 0x41B80000#32 = lag 23 := by
  unfold lag; simp [Ideal.ofBits, Ideal.ieee, -EReal.coe_mul]; norm_num
/-- The float word of 15. -/
theorem lag15_bits : Ideal.ofBits .f32 0x41700000#32 = lag 15 := by
  unfold lag; simp [Ideal.ofBits, Ideal.ieee, -EReal.coe_mul]; norm_num
/-- The float word of 7. -/
theorem lag7_bits : Ideal.ofBits .f32 0x40E00000#32 = lag 7 := by
  unfold lag; simp [Ideal.ofBits, Ideal.ieee, -EReal.coe_mul]; norm_num
/-- The float word of minus infinity is the bottom element. -/
theorem bot_bits : Ideal.ofBits .f32 0xFF800000#32 = ⊥ := by
  simp [Ideal.ofBits, Ideal.ieee]
/-- The threshold is positive. -/
theorem theta_pos : 0 < theta := by
  unfold theta
  simp only [Ideal.ofBits, Ideal.ieee]
  rw [if_neg (by decide), if_neg (by decide)]
  rw [← EReal.coe_zero, EReal.coe_lt_coe_iff]
  have : ((0x414CCCCD#32).extractLsb' (8 + 23) 1 == 1#1) = false := by decide
  rw [this]
  simp only [Bool.false_eq_true, if_false, one_mul]
  positivity

/-- A difference of whole lags is the lag of the difference. -/
theorem lag_sub (a b : ℤ) : lag a - lag b = lag (a - b) := by
  unfold lag; rw [← EReal.coe_sub]; norm_cast

/-! ### The potentials -/

/-- The response `l` steps after an input, through a weight `w`. -/
def tap (l : ℤ) (w : EReal) : EReal :=
  max 0 (min (Ideal.div (lag l) c16) (Ideal.div (0 - (lag l - w * c16)) c32 + w))

/-- The input wave with thirty-two silent steps before it and after it. -/
def xpad (x : Fin 32 → Fin 128 → Fin 64 → EReal) (b : Fin 32) (s : Fin 128) (u : ℕ) : EReal :=
  if h : 32 ≤ u ∧ u < 96 then x b s ⟨u - 32, by omega⟩ else 0

/-- The summed responses of all synapses over the last forty-eight steps. -/
def conv (x : Fin 32 → Fin 128 → Fin 64 → EReal) (w : Fin 2048 → Fin 128 → EReal) (b : Fin 32) (t : ℕ) (n : Fin 2048) : EReal :=
  ∑ s : Fin 128, ∑ k : Fin 48, xpad x b s (t + k) * tap (47 - (k : ℕ)) (w n s)

/-- The label's share of a neuron's potential. -/
def boost (lab : Fin 32 → BitVec 32) (b : Fin 32) (n : Fin 2048) : EReal :=
  if lab b = BitVec.ofNat 32 n then six else 0

/-- A neuron's potential at a step. -/
def pot (x : Fin 32 → Fin 128 → Fin 64 → EReal) (w : Fin 2048 → Fin 128 → EReal) (lab : Fin 32 → BitVec 32) (b : Fin 32)
    (t : ℕ) (n : Fin 2048) : EReal :=
  conv x w b t n + boost lab b n

/-- The wave of one synapse shifted right by `7 - r` steps in a row of eighty. -/
def xsh (x : Fin 32 → Fin 128 → Fin 64 → EReal) (b : Fin 32) (j r : ℕ) (s : Fin 128) : EReal :=
  if h : 7 - r ≤ j ∧ j < 7 - r + 64 then x b s ⟨j - (7 - r), by omega⟩ else 0

/-- One group's eight lags, taken together over all synapses. -/
def group (x : Fin 32 → Fin 128 → Fin 64 → EReal) (w : Fin 128 → EReal) (b : Fin 32) (l : ℤ) (j : ℕ) : EReal :=
  ∑ c : Fin 1024, xsh x b j (c.val / 128) ⟨c.val % 128, Nat.mod_lt _ (by decide)⟩
    * tap (l - ((c.val / 128 : ℕ) : ℤ)) (w ⟨c.val % 128, Nat.mod_lt _ (by decide)⟩)

/-- A sum over 1024 positions, as a sum over eight blocks of 128. -/
theorem sum_1024 (f : ℕ → Fin 128 → EReal) :
    (∑ c : Fin 1024, f (c.val / 128) ⟨c.val % 128, Nat.mod_lt _ (by decide)⟩) = ∑ r : Fin 8, ∑ s : Fin 128, f r.val s := by
  rw [← Fintype.sum_prod_type']
  rw [← (finProdFinEquiv (m := 8) (n := 128)).sum_comp (fun c : Fin 1024 => f (c.val / 128) ⟨c.val % 128, Nat.mod_lt _ (by decide)⟩)]
  refine Finset.sum_congr rfl fun p _ => ?_
  obtain ⟨r, s⟩ := p
  have hs := s.isLt
  have h1 : (finProdFinEquiv (m := 8) (n := 128) (r, s)).val / 128 = r.val := by
    simp only [finProdFinEquiv_apply_val]; omega
  have h2 : (finProdFinEquiv (m := 8) (n := 128) (r, s)).val % 128 = s.val := by
    simp only [finProdFinEquiv_apply_val]; omega
  simp only [h1, h2]

/-- A sum over forty-eight lags, as a sum over six groups of eight. -/
theorem sum_48 (f : ℕ → EReal) : (∑ k : Fin 48, f k.val) = ∑ g : Fin 6, ∑ r : Fin 8, f (8 * g.val + r.val) := by
  rw [← Fintype.sum_prod_type']
  rw [← (finProdFinEquiv (m := 6) (n := 8)).sum_comp (fun k : Fin 48 => f k.val)]
  refine Finset.sum_congr rfl fun p _ => ?_
  obtain ⟨g, r⟩ := p
  simp only [finProdFinEquiv_apply_val]
  congr 1; omega

/-- The group `g`'s share at row `τ` of a buffer of 128 rows, in which it occupies eighty rows from `40 - 8 g` on. -/
def share (x : Fin 32 → Fin 128 → Fin 64 → EReal) (w : Fin 128 → EReal) (b : Fin 32) (g τ : ℕ) : EReal :=
  if 40 - 8 * g ≤ τ ∧ τ < 120 - 8 * g then group x w b (47 - 8 * (g : ℤ)) (τ - (40 - 8 * g)) else 0

/-- At a row that stands for a step of the wave, a group's share is the part of the convolution over its eight lags. -/
theorem share_eq (x : Fin 32 → Fin 128 → Fin 64 → EReal) (w : Fin 128 → EReal) (b : Fin 32) (g t : ℕ) (hg : g < 6) (ht : t < 81) :
    share x w b g (t + 15)
      = ∑ r : Fin 8, ∑ s : Fin 128, xpad x b s (t + (8 * g + r)) * tap (47 - ((8 * g + r.val : ℕ) : ℤ)) (w s) := by
  unfold share
  split
  · rename_i h
    unfold group
    rw [sum_1024 (fun r s => xsh x b (t + 15 - (40 - 8 * g)) r s * tap (47 - 8 * (g : ℤ) - (r : ℤ)) (w s))]
    refine Finset.sum_congr rfl fun r _ => Finset.sum_congr rfl fun s _ => ?_
    have hr := r.isLt
    congr 1
    · unfold xsh xpad
      by_cases hc : 32 ≤ t + (8 * g + r.val) ∧ t + (8 * g + r.val) < 96
      · rw [dif_pos hc, dif_pos (by omega)]
        congr 1; apply Fin.ext; show _ - _ = _ - _; omega
      · rw [dif_neg hc, dif_neg (by omega)]
    · congr 1; push_cast; ring
  · rename_i h
    symm
    refine Finset.sum_eq_zero fun r _ => Finset.sum_eq_zero fun s _ => ?_
    have hr := r.isLt
    unfold xpad
    rw [dif_neg (by omega), zero_mul]

/-- The six groups together are the convolution. -/
theorem conv_eq_shares (x : Fin 32 → Fin 128 → Fin 64 → EReal) (w : Fin 2048 → Fin 128 → EReal) (b : Fin 32) (t : ℕ) (ht : t < 81)
    (n : Fin 2048) :
    share x (w n) b 0 (t + 15) + share x (w n) b 1 (t + 15) + share x (w n) b 2 (t + 15) + share x (w n) b 3 (t + 15)
      + share x (w n) b 4 (t + 15) + share x (w n) b 5 (t + 15) = conv x w b t n := by
  have e : (∑ g : Fin 6, share x (w n) b g.val (t + 15)) = conv x w b t n := by
    unfold conv
    rw [Finset.sum_comm]
    rw [sum_48 (fun k => ∑ s : Fin 128, xpad x b s (t + k) * tap (47 - (k : ℕ)) (w n s))]
    exact Finset.sum_congr rfl fun g _ => share_eq x (w n) b g.val t g.isLt ht
  rw [← e, Fin.sum_univ_six]; rfl

/-- A neuron's potential at a row of the buffer of 128 rows; rows `15, …, 95` stand for the steps of the wave. -/
def row (x : Fin 32 → Fin 128 → Fin 64 → EReal) (w : Fin 2048 → Fin 128 → EReal) (lab : Fin 32 → BitVec 32) (b : Fin 32)
    (τ : ℕ) (n : ℕ) : EReal :=
  if h : n < 2048 then
    share x (w ⟨n, h⟩) b 0 τ + share x (w ⟨n, h⟩) b 1 τ + share x (w ⟨n, h⟩) b 2 τ + share x (w ⟨n, h⟩) b 3 τ
      + share x (w ⟨n, h⟩) b 4 τ + share x (w ⟨n, h⟩) b 5 τ + boost lab b ⟨n, h⟩
  else 0

/-- A neuron's potential at a step, the neuron a natural number. -/
def potN (x : Fin 32 → Fin 128 → Fin 64 → EReal) (w : Fin 2048 → Fin 128 → EReal) (lab : Fin 32 → BitVec 32) (b : Fin 32)
    (t : ℕ) (n : ℕ) : EReal :=
  if h : n < 2048 then pot x w lab b t ⟨n, h⟩ else 0

theorem row_eq (x : Fin 32 → Fin 128 → Fin 64 → EReal) (w : Fin 2048 → Fin 128 → EReal) (lab : Fin 32 → BitVec 32) (b : Fin 32)
    (t : ℕ) (ht : t < 81) : row x w lab b (t + 15) = potN x w lab b t := by
  funext n
  unfold row potN pot
  split
  · rw [conv_eq_shares x w b t ht]
  · rfl

/-! ### The largest value and its first position -/

/-- `m` is the largest of `f 0, …, f (N - 1)` and `a` the first position it is taken at. -/
def FirstMax (f : ℕ → EReal) (N : ℕ) (m : EReal) (a : ℕ) : Prop :=
  a < N ∧ f a = m ∧ (∀ n < N, f n ≤ m) ∧ ∀ n < a, f n < m

/-- The maximum and its first index are unique. -/
theorem FirstMax.unique {f : ℕ → EReal} {N : ℕ} {m m' : EReal} {a a' : ℕ} (h : FirstMax f N m a) (h' : FirstMax f N m' a') :
    m = m' ∧ a = a' := by
  obtain ⟨h1, h2, h3, h4⟩ := h
  obtain ⟨g1, g2, g3, g4⟩ := h'
  have hm : m = m' := le_antisymm (h2 ▸ g3 a h1) (g2 ▸ h3 a' g1)
  refine ⟨hm, ?_⟩
  rcases Nat.lt_trichotomy a a' with l | l | l
  · exact absurd (g4 a l) (by rw [h2, hm]; exact lt_irrefl _)
  · exact l
  · exact absurd (h4 a' l) (by rw [g2, hm]; exact lt_irrefl _)

/-- The first maximum depends on the values below the bound only. -/
theorem FirstMax.congr {f f' : ℕ → EReal} {N : ℕ} {m : EReal} {a : ℕ} (h : FirstMax f N m a) (e : ∀ n < N, f n = f' n) :
    FirstMax f' N m a := by
  obtain ⟨h1, h2, h3, h4⟩ := h
  exact ⟨h1, e a h1 ▸ h2, fun n hn => e n hn ▸ h3 n hn, fun n hn => e n (by omega) ▸ h4 n hn⟩

/-- Appending `K` more values: the later maximum takes over exactly if it is strictly larger. -/
theorem FirstMax.append {f : ℕ → EReal} {N K : ℕ} {m m' : EReal} {a a' : ℕ} (h : FirstMax f N m a)
    (h' : FirstMax (fun q => f (N + q)) K m' a') :
    FirstMax f (N + K) (if m < m' then m' else m) (if m < m' then N + a' else a) := by
  obtain ⟨h1, h2, h3, h4⟩ := h
  obtain ⟨g1, g2, g3, g4⟩ := h'
  have split : ∀ n < N + K, f n ≤ m ∨ f n ≤ m' := fun n hn => by
    by_cases c : n < N
    · exact .inl (h3 n c)
    · have : f (N + (n - N)) ≤ m' := g3 (n - N) (by omega)
      rw [show N + (n - N) = n by omega] at this
      exact .inr this
  by_cases c : m < m'
  · rw [if_pos c, if_pos c]
    refine ⟨by omega, g2, fun n hn => (split n hn).elim (fun l => l.trans c.le) id, fun n hn => ?_⟩
    by_cases d : n < N
    · exact (h3 n d).trans_lt c
    · have : f (N + (n - N)) < m' := g4 (n - N) (by omega)
      rwa [show N + (n - N) = n by omega] at this
  · rw [if_neg c, if_neg c]
    exact ⟨by omega, h2, fun n hn => (split n hn).elim id (fun l => l.trans (not_lt.mp c)), h4⟩

/-- Every nonempty list of values has a largest one, first taken somewhere; the largest is the fold of `max`. -/
theorem firstMax_fold (K : ℕ) (hK : 0 < K) (f : ℕ → EReal) :
    ∃ a, FirstMax f K ((Finset.univ : Finset (Fin K)).fold max ⊥ (fun k => f k.val)) a := by
  classical
  have hne : (Finset.univ : Finset (Fin K)).Nonempty := ⟨⟨0, hK⟩, Finset.mem_univ _⟩
  set m := (Finset.univ : Finset (Fin K)).fold max ⊥ (fun k => f k.val) with hm
  have hs : m = (Finset.univ : Finset (Fin K)).sup (fun k => f k.val) := rfl
  have hle : ∀ n < K, f n ≤ m := fun n hn => hs ▸ Finset.le_sup (f := fun k : Fin K => f k.val) (Finset.mem_univ ⟨n, hn⟩)
  have hex : ∃ a, a < K ∧ f a = m := by
    obtain ⟨k, _, hk⟩ := Finset.exists_mem_eq_sup _ hne (fun k : Fin K => f k.val)
    exact ⟨k.val, k.isLt, by rw [hs, hk]⟩
  refine ⟨Nat.find hex, (Nat.find_spec hex).1, (Nat.find_spec hex).2, hle, fun n hn => ?_⟩
  have hK' := (Nat.find_spec hex).1
  exact lt_of_le_of_ne (hle n (by omega)) fun e => Nat.find_min hex hn ⟨by omega, e⟩

/-- A fold of the signed minimum over words below `2 ^ 31` is the word of the fold of the minimum. -/
theorem fold_minsi {ι : Type} (S : Finset ι) (g : ι → ℕ) (hg : ∀ i, g i < 2 ^ 31) :
    S.fold IntOp.minsi 2147483647#32 (fun i => BitVec.ofNat 32 (g i)) = BitVec.ofNat 32 (S.fold min 2147483647 g)
      ∧ S.fold min 2147483647 g < 2 ^ 31 := by
  classical
  induction S using Finset.induction_on with
  | empty => exact ⟨rfl, by rw [Finset.fold_empty]; norm_num⟩
  | insert i S hi ih =>
    rw [Finset.fold_insert hi, Finset.fold_insert hi, ih.1]
    refine ⟨?_, lt_of_le_of_lt (min_le_left _ _) (hg i)⟩
    rw [PlanTiles.minsi_word (hg i) ih.2, min_comm]

/-- The least of the numbers `off + k` over the positions `k` with a property, and `d` elsewhere: the first such position,
    and `d` when there is none. -/
theorem fold_first {K : ℕ} (p : ℕ → Prop) [DecidablePred p] (off d : ℕ) (hd : off + K ≤ d) (hd' : d < 2 ^ 31) (hK : 0 < K) :
    (∀ a, a < K → p a → (∀ n < a, ¬ p n) →
        (Finset.univ : Finset (Fin K)).fold IntOp.minsi 2147483647#32 (fun k => if p k.val then BitVec.ofNat 32 (off + k.val) else BitVec.ofNat 32 d)
          = BitVec.ofNat 32 (off + a))
    ∧ ((∀ n < K, ¬ p n) →
        (Finset.univ : Finset (Fin K)).fold IntOp.minsi 2147483647#32 (fun k => if p k.val then BitVec.ofNat 32 (off + k.val) else BitVec.ofNat 32 d)
          = BitVec.ofNat 32 d) := by
  have e : (fun k : Fin K => if p k.val then BitVec.ofNat 32 (off + k.val) else BitVec.ofNat 32 d)
      = fun k : Fin K => BitVec.ofNat 32 (if p k.val then off + k.val else d) := by
    funext k; split <;> rfl
  rw [e, (fold_minsi _ (fun k : Fin K => if p k.val then off + k.val else d) (fun k => by have := k.isLt; split <;> omega)).1]
  have key : ∀ v : ℕ, v ≤ 2147483647 → (∃ k : Fin K, (if p k.val then off + k.val else d) = v)
      → (∀ k : Fin K, v ≤ (if p k.val then off + k.val else d))
      → (Finset.univ : Finset (Fin K)).fold min 2147483647 (fun k : Fin K => if p k.val then off + k.val else d) = v := by
    intro v hv ⟨k, hk⟩ hall
    apply le_antisymm
    · rw [Finset.fold_min_le]; exact .inr ⟨k, Finset.mem_univ _, hk.le⟩
    · rw [Finset.le_fold_min]; exact ⟨hv, fun k _ => hall k⟩
  refine ⟨fun a ha hp hn => ?_, fun hn => ?_⟩
  · rw [key (off + a) (by omega) ⟨⟨a, ha⟩, by simp [hp]⟩ (fun k => ?_)]
    have := k.isLt
    by_cases c : p k.val
    · rw [if_pos c]
      have : ¬ k.val < a := fun l => hn _ l c
      omega
    · rw [if_neg c]; omega
  · rw [key d (by omega) ⟨⟨0, hK⟩, by simp [hn 0 hK]⟩ (fun k => by rw [if_neg (hn k.val k.isLt)])]

/-- The word of a neuron's number, from its place in a tile and the tile's number. -/
theorem word_tile (K q i : ℕ) : BitVec.ofNat 32 q + BitVec.ofNat 32 i * BitVec.ofNat 32 K = BitVec.ofNat 32 (K * i + q) := by
  rw [← BitVec.ofNat_mul, ← BitVec.ofNat_add]
  exact congrArg (BitVec.ofNat 32) (by rw [Nat.mul_comm i K, Nat.add_comm])

/-! ### The spikes of a wave -/

/-- `t` is the first step from `lo` on with the property `q`. -/
def FirstFrom (q : ℕ → Prop) (lo t : ℕ) : Prop := lo ≤ t ∧ q t ∧ ∀ u, lo ≤ u → u < t → ¬ q u

/-- The first time from a given one is unique. -/
theorem FirstFrom.unique {q : ℕ → Prop} {lo t t' : ℕ} (h : FirstFrom q lo t) (h' : FirstFrom q lo t') : t = t' := by
  rcases Nat.lt_trichotomy t t' with l | l | l
  · exact absurd h.2.1 (h'.2.2 t h.1 l)
  · exact l
  · exact absurd h'.2.1 (h.2.2 t' h'.1 l)

open Classical in
/-- The depression of a layer before each step: forty-seven after a spike, one less after any other step. -/
def dep (q : ℕ → Prop) : ℕ → ℕ
  | 0 => 0
  | t + 1 => if dep q t = 0 ∧ q t then 47 else dep q t - 1

/-- The layer spikes at a step when it is not depressed and a neuron is over the threshold. -/
def spk (q : ℕ → Prop) (t : ℕ) : Prop := dep q t = 0 ∧ q t

/-- A depression counter never exceeds 47. -/
theorem dep_le (q : ℕ → Prop) (t : ℕ) : dep q t ≤ 47 := by
  induction t with
  | zero => simp [dep]
  | succ t ih => unfold dep; split <;> omega

/-- Without a step over the threshold an undepressed layer stays undepressed. -/
theorem dep_quiet {q : ℕ → Prop} {t0 : ℕ} (h0 : dep q t0 = 0) (t : ℕ) (ht : t0 ≤ t) (hq : ∀ u, t0 ≤ u → u < t → ¬ q u) :
    dep q t = 0 := by
  induction t, ht using Nat.le_induction with
  | base => exact h0
  | succ t ht ih =>
    have h := ih fun u h1 h2 => hq u h1 (by omega)
    unfold dep
    rw [if_neg (fun c => hq t ht (by omega) c.2), h]

/-- After a spike the depression runs down from forty-seven. -/
theorem dep_after {q : ℕ → Prop} {s : ℕ} (hs : spk q s) (j : ℕ) (hj : j < 48) : dep q (s + 1 + j) = 47 - j := by
  induction j with
  | zero => show dep q (s + 1) = 47; unfold dep; exact if_pos hs
  | succ j ih =>
    have h := ih (by omega)
    show dep q (s + 1 + j + 1) = _
    unfold dep
    rw [if_neg (fun c => by omega), h]; omega

/-- In the first ninety-six steps a layer spikes at the first step over the threshold, and at the first one forty-eight or
    more steps later, and at no other. -/
theorem spk_iff (q : ℕ → Prop) (t : ℕ) (ht : t < 96) :
    spk q t ↔ FirstFrom q 0 t ∨ ∃ s, FirstFrom q 0 s ∧ FirstFrom q (s + 48) t := by
  have first : ∀ s, FirstFrom q 0 s → spk q s := fun s h =>
    ⟨dep_quiet (t0 := 0) rfl s (Nat.zero_le _) fun u h1 h2 => h.2.2 u h1 h2, h.2.1⟩
  have at48 : ∀ s, spk q s → dep q (s + 48) = 0 := fun s h => dep_after h 47 (by omega)
  have second : ∀ s u, FirstFrom q 0 s → FirstFrom q (s + 48) u → spk q u := fun s u h h' =>
    ⟨dep_quiet (at48 s (first s h)) u h'.1 fun v h1 h2 => h'.2.2 v h1 h2, h'.2.1⟩
  constructor
  · intro h
    classical
    by_cases c : ∃ s, s ≤ t ∧ q s
    · have hs := Nat.find_spec c
      set s := Nat.find c with hsdef
      have hf : FirstFrom q 0 s := ⟨Nat.zero_le _, hs.2, fun u _ h2 hq => Nat.find_min c h2 ⟨by omega, hq⟩⟩
      by_cases e : s = t
      · exact .inl (e ▸ hf)
      · right
        refine ⟨s, hf, ?_⟩
        have h48 : s + 48 ≤ t := by
          by_contra hlt
          have := dep_after (first s hf) (t - (s + 1)) (by omega)
          rw [show s + 1 + (t - (s + 1)) = t by omega, h.1] at this
          omega
        refine ⟨h48, h.2, ?_⟩
        by_contra hno
        push Not at hno
        have hex : ∃ u, s + 48 ≤ u ∧ u < t ∧ q u := by
          obtain ⟨u, h1, h2, h3⟩ := hno; exact ⟨u, h1, h2, h3⟩
        have hu := Nat.find_spec hex
        set u := Nat.find hex with hudef
        have hf' : FirstFrom q (s + 48) u := ⟨hu.1, hu.2.2, fun v h1 h2 hq => Nat.find_min hex h2 ⟨h1, by omega, hq⟩⟩
        have := dep_after (second s u hf hf') (t - (u + 1)) (by omega)
        rw [show u + 1 + (t - (u + 1)) = t by omega, h.1] at this
        omega
    · exact absurd ⟨t, le_refl _, h.2⟩ c
  · rintro (h | ⟨s, h, h'⟩)
    · exact first t h
    · exact second s t h h'

/-- Step `t`'s largest potential is above the threshold. -/
def loud (x : Fin 32 → Fin 128 → Fin 64 → EReal) (w : Fin 2048 → Fin 128 → EReal) (lab : Fin 32 → BitVec 32) (b : Fin 32) (t : ℕ) : Prop :=
  t < 81 ∧ ∃ m a, FirstMax (potN x w lab b t) 2048 m a ∧ theta < m

open Classical in
/-- The output: one where the step spikes and the neuron is the first with the step's largest potential, zero elsewhere. -/
def answer (x : Fin 32 → Fin 128 → Fin 64 → EReal) (w : Fin 2048 → Fin 128 → EReal) (lab : Fin 32 → BitVec 32) (b : Fin 32) (n t : ℕ) : EReal :=
  if spk (loud x w lab b) t ∧ ∃ m, FirstMax (potN x w lab b t) 2048 m n then 1 else 0

end Cert.Spec
-- ==== Proof.KernelIdealPot.lean ====
/- One grid point of the first region read on extended reals: the potentials of its 512 neurons at every row of the
   accumulator, their largest value and the first neuron it is taken at. -/
module

public import proofs.«01_k».proof.Proof.KernelIdealTile
public import proofs.«01_k».proof.Proof.Spec
public import Idealize.ShloMosaic.Lib.Pointwise

@[expose] public section

set_option maxRecDepth 16384

noncomputable section

namespace Cert.KernelIdeal.Own

open Cert.KernelIdeal.Gen
open Idealize.ShloMosaic Idealize.ShloMosaic.TcCoe
open scoped BigOperators

/-- The contents after one more store through a box of rank three, at a position given by its coordinates. -/
theorem canon_box3 {n0 n1 n2 k0 k1 k2 o0 o1 o2 : ℕ} {e : EltTy}
    (inb : ∀ a, (![o0, o1, o2] : Fin 3 → ℕ) a + (![k0, k1, k2] : Fin 3 → ℕ) a ≤ (⟨3, ![n0, n1, n2]⟩ : Shape).size a)
    (w : (⟨3, ![k0, k1, k2]⟩ : Shape).Idx → Elt Ideal e) (L : List (View.Piece (Elt Ideal) (⟨3, ![n0, n1, n2]⟩ : Shape) e))
    (b : Fin n0) (j : Fin n1) (c : Fin n2) :
    View.canon (⟨Rect.unit (s := ⟨3, ![n0, n1, n2]⟩) ![o0, o1, o2] ![k0, k1, k2] inb, w⟩ :: L) (ix3 b j c)
      = if h : (o0 ≤ b.val ∧ b.val < o0 + k0) ∧ (o1 ≤ j.val ∧ j.val < o1 + k1) ∧ (o2 ≤ c.val ∧ c.val < o2 + k2) then
          w (ix3 ⟨b.val - o0, by omega⟩ ⟨j.val - o1, by omega⟩ ⟨c.val - o2, by omega⟩)
        else View.canon L (ix3 b j c) := by
  rw [canon_box]
  by_cases h : (o0 ≤ b.val ∧ b.val < o0 + k0) ∧ (o1 ≤ j.val ∧ j.val < o1 + k1) ∧ (o2 ≤ c.val ∧ c.val < o2 + k2)
  · rw [dif_pos h, dif_pos]
    · congr 1
      funext a
      apply Fin.ext
      match a with
      | ⟨0, _⟩ => rfl
      | ⟨1, _⟩ => rfl
      | ⟨2, _⟩ => rfl
    · intro a
      match a with
      | ⟨0, _⟩ => exact h.1
      | ⟨1, _⟩ => exact h.2.1
      | ⟨2, _⟩ => exact h.2.2
  · rw [dif_neg h, dif_neg]
    exact fun g => h ⟨g 0, g 1, g 2⟩

/-- The repeated transposed weights at a position: lag block `c / 128`, synapse `c % 128`. -/
theorem pay17_at (x1 : Vec Ideal S512x128 .f32) (c : Fin 1024) (q : Fin 512) :
    k0_pay17 x1 (ix2 c q) = x1 (ix2 q ⟨c.val % 128, Nat.mod_lt _ (by decide)⟩) := by
  pointwise [k0_pay17]
  have hc := c.isLt
  repeat' split
  all_goals (congr 2; apply Fin.ext; show _ = c.val % 128; simp only; omega)

/-- The lag of a position within its group: the position's block of 128. -/
theorem pay18_at (c : Fin 1024) (q : Fin 512) : k0_pay18 (F := Ideal) (ix2 c q) = Cert.Spec.lag ((c.val / 128 : ℕ) : ℤ) := by
  pointwise [k0_pay18]
  have h : ∀ c : Fin 1024, (Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 128#32 0#32))
              (Scalar.extui (Scalar.cmpi CmpIPredicate.slt 128#32 0#32))))
          (IntOp.cmpi CmpIPredicate.ne (IntOp.remsi ArithUnit.vector (BitVec.ofNat 32 c.val) 128#32) 0#32))
        (IntOp.subi (IntOp.divsi ArithUnit.vector (BitVec.ofNat 32 c.val) 128#32) 1#32)
        (IntOp.divsi ArithUnit.vector (BitVec.ofNat 32 c.val) 128#32)).toInt = ((c.val / 128 : ℕ) : ℤ) := by decide +kernel
  show ((_ : ℝ) : EReal) = _
  rw [h c]; rfl

/-- The response of a synapse at a position of a group whose lags start at `l`. -/
theorem tapv_at (cst : BitVec 32) (l : ℤ) (hl : Ideal.ofBits .f32 cst = Cert.Spec.lag l) (x1 : Vec Ideal S512x128 .f32)
    (c : Fin 1024) (q : Fin 512) :
    tapv cst (k0_pay17 x1) (ix2 c q)
      = Cert.Spec.tap (l - ((c.val / 128 : ℕ) : ℤ)) (x1 (ix2 q ⟨c.val % 128, Nat.mod_lt _ (by decide)⟩)) := by
  pointwise [tapv]
  rw [pay17_at, pay18_at, hl, Cert.Spec.lag_sub]
  rfl

/-- The rearranged input with its samples and rows merged. -/
theorem pay19_at (xs : Vec Ideal S32x80x1024 .f32) (r : Fin 2560) (c : Fin 1024) :
    k0_pay19 xs (ix2 r c) = xs (ix3 ⟨r.val / 80, by omega⟩ ⟨r.val % 80, Nat.mod_lt _ (by decide)⟩ c) := by
  pointwise [k0_pay19]

/-- One group's product at a position: the sum over its lags and synapses. -/
theorem grp_at (cst : BitVec 32) (l : ℤ) (hl : Ideal.ofBits .f32 cst = Cert.Spec.lag l) (x1 : Vec Ideal S512x128 .f32)
    (xs : Vec Ideal S32x80x1024 .f32) (b : Fin 32) (j : Fin 80) (q : Fin 512) :
    grp cst (k0_pay17 x1) (k0_pay19 xs) (ix3 b j q)
      = ∑ c : Fin 1024, xs (ix3 b j c) * Cert.Spec.tap (l - ((c.val / 128 : ℕ) : ℤ)) (x1 (ix2 q ⟨c.val % 128, Nat.mod_lt _ (by decide)⟩)) := by
  pointwise [grp]
  refine Finset.sum_congr rfl fun c _ => ?_
  rw [tapv_at cst l hl, pay19_at]
  have hj := j.isLt
  congr 3
  · apply Fin.ext; show (b.val * 80 + j.val) / 80 = b.val; omega
  · apply Fin.ext; show (b.val * 80 + j.val) % 80 = j.val; omega

/-- One more of the eight stores that lay out the input, block `k` of the lags shifted down by `7 - k` rows: if the blocks
    before it are laid out over zeros, so are they with it. -/
theorem xs_step (x0 : Vec Ideal S32x128x64 .f32) (o k : ℕ) (hk : k < 8) (ho : o = 7 - k)
    (inb : ∀ a, (![0, o, 128 * k] : Fin 3 → ℕ) a + S32x64x128.size a ≤ S32x80x1024.size a)
    (w : Vec Ideal S32x64x128 .f32) (hw : ∀ b u s, w (ix3 b u s) = x0 (ix3 b s u))
    (L : List (View.Piece (Elt Ideal) S32x80x1024 .f32)) (b : Fin 32) (j : Fin 80) (c : Fin 1024)
    (hL : View.canon L (ix3 b j c) = if c.val / 128 < k then
      Cert.Spec.xsh (fun b s u => x0 (ix3 b s u)) b j.val (c.val / 128) ⟨c.val % 128, Nat.mod_lt _ (by decide)⟩ else 0) :
    View.canon (⟨Rect.unit (s := S32x80x1024) ![0, o, 128 * k] S32x64x128.size inb, w⟩ :: L) (ix3 b j c)
      = if c.val / 128 < k + 1 then
          Cert.Spec.xsh (fun b s u => x0 (ix3 b s u)) b j.val (c.val / 128) ⟨c.val % 128, Nat.mod_lt _ (by decide)⟩ else 0 := by
  refine (canon_box3 inb w L b j c).trans ?_
  have hb := b.isLt
  have hc := c.isLt
  by_cases h : (o ≤ j.val ∧ j.val < o + 64) ∧ c.val / 128 = k
  · rw [dif_pos (by omega), hw, if_pos (by omega)]
    unfold Cert.Spec.xsh
    rw [dif_pos (by omega)]
    congr 2
    · apply Fin.ext; show c.val - 128 * k = c.val % 128; omega
    · apply Fin.ext; show j.val - o = j.val - (7 - c.val / 128); omega
  · rw [dif_neg (by omega), hL]
    by_cases h' : c.val / 128 = k
    · rw [if_neg (by omega), if_pos (by omega)]
      unfold Cert.Spec.xsh
      rw [dif_neg (by omega)]
    · by_cases h2 : c.val / 128 < k
      · rw [if_pos h2, if_pos (by omega)]
      · rw [if_neg h2, if_neg (by omega)]

/-- The transposed input at a position. -/
theorem pay7_at (x0 : Vec Ideal S32x128x64 .f32) (b : Fin 32) (u : Fin 64) (s : Fin 128) : k0_pay7 x0 (ix3 b u s) = x0 (ix3 b s u) := by
  pointwise [k0_pay7]

/-- The rearranged input at a position. -/
theorem xsv_at (x0 : Vec Ideal S32x128x64 .f32) (b : Fin 32) (j : Fin 80) (c : Fin 1024) :
    xsv x0 (ix3 b j c) = Cert.Spec.xsh (fun b s u => x0 (ix3 b s u)) b j.val (c.val / 128) ⟨c.val % 128, Nat.mod_lt _ (by decide)⟩ := by
  have hb := b.isLt
  have hj := j.isLt
  have hc := c.isLt
  have cast : ∀ (w : Vec Ideal S32x64x128 .f32), w = k0_pay7 x0 → ∀ b u s, w (ix3 b u s) = x0 (ix3 b s u) := fun w h b u s => by
    rw [h]; exact pay7_at x0 b u s
  have id7 : ∀ v : FVec Ideal S32x64x128 .f32, shapeCast S32x64x128 v shapeCasts_S32x64x128_S32x64x128 = v := fun v => shapeCast_self _ _
  unfold xsv
  refine (xs_step x0 0 7 (by decide) (by decide) _ _ (cast _ (id7 _)) _ b j c
    (xs_step x0 1 6 (by decide) (by decide) _ _ (cast _ (id7 _)) _ b j c
    (xs_step x0 2 5 (by decide) (by decide) _ _ (cast _ (id7 _)) _ b j c
    (xs_step x0 3 4 (by decide) (by decide) _ _ (cast _ (id7 _)) _ b j c
    (xs_step x0 4 3 (by decide) (by decide) _ _ (cast _ (id7 _)) _ b j c
    (xs_step x0 5 2 (by decide) (by decide) _ _ (cast _ (id7 _)) _ b j c
    (xs_step x0 6 1 (by decide) (by decide) _ _ (cast _ (id7 _)) _ b j c
    (xs_step x0 7 0 (by decide) (by decide) _ _ (cast _ (id7 _)) _ b j c ?_)))))))).trans (if_pos (by omega))
  rw [if_neg (by omega)]
  refine (canon_box3 (e := .f32) inb_S32x80x1024_S32x80x1024_0_0_0 (k0_pay8 (F := Ideal)) _ b j c).trans ?_
  rw [dif_pos (by omega)]
  pointwise [k0_pay8]

/-- The label's share of the potentials of a tile. -/
theorem pay36_at (i : Fin 4) (x2 : Vec Ideal S32x1 .i32) (b : Fin 32) (q : Fin 512) :
    k0_pay36 (F := Ideal) (BitVec.ofNat 32 i.val) x2 (ix3 b 0 q)
      = if x2 (ix2 b 0) = BitVec.ofNat 32 (512 * i.val + q.val) then Cert.Spec.six else 0 := by
  pointwise [k0_pay36]
  have e : IntOp.addi (BitVec.ofNat 32 q.val) (Scalar.muli (BitVec.ofNat 32 i.val) 512#32) = BitVec.ofNat 32 (512 * i.val + q.val) := by
    exact Cert.Spec.word_tile 512 q.val i.val
  rw [e, Cert.Spec.six_bits]
  by_cases h : x2 (ix2 b 0) = BitVec.ofNat 32 (512 * i.val + q.val)
  · rw [if_pos h, h]
    simp [Scalar.select, IntOp.cmpi]
  · rw [if_neg h]
    have : (BitVec.ofNat 32 (512 * i.val + q.val) == x2 (ix2 b 0)) = false := by
      rw [beq_eq_false_iff_ne]; exact fun g => h g.symm
    simp [Scalar.select, IntOp.cmpi, this]

/-- One more group at a position: inside its eighty rows its product is added. -/
theorem acc_step (cst : BitVec 32) (v5 : FVec Ideal S1024x512 .f32) (v33 : FVec Ideal S2560x1024 .f32) (o : ℕ)
    (inb : ∀ a, (![0, o, 0] : Fin 3 → ℕ) a + S32x80x512.size a ≤ S32x128x512.size a) (L : List (View.Piece (Elt Ideal) S32x128x512 .f32))
    (b : Fin 32) (τ : Fin 128) (q : Fin 512) :
    View.canon (accStep cst v5 v33 ![0, o, 0] inb L) (ix3 b τ q)
      = if h : o ≤ τ.val ∧ τ.val < o + 80 then View.canon L (ix3 b τ q) + grp cst v5 v33 (ix3 b ⟨τ.val - o, by omega⟩ q)
        else View.canon L (ix3 b τ q) := by
  unfold accStep
  refine (canon_box3 inb _ L b τ q).trans ?_
  have hb := b.isLt
  have hq := q.isLt
  by_cases h : o ≤ τ.val ∧ τ.val < o + 80
  · rw [dif_pos h, dif_pos (by omega)]
    refine (congrFun (shapeCast_self _ shapeCasts_S32x80x512_S32x80x512) _).trans ?_
    show View.canon L _ + grp cst v5 v33 _ = _
    congr 2
    funext a
    apply Fin.ext
    match a with
    | ⟨0, _⟩ => show 0 + 1 * b.val = b.val; omega
    | ⟨1, _⟩ => show o + 1 * (τ.val - o) = τ.val; omega
    | ⟨2, _⟩ => show 0 + 1 * q.val = q.val; omega
  · rw [dif_neg h, dif_neg (by omega)]

/-- One more group's share is added at every row, when the second operand is the rearranged input. -/
theorem acc_share (cst : BitVec 32) (g o : ℕ) (hg : g < 6) (ho : o = 40 - 8 * g) (hl : Ideal.ofBits .f32 cst = Cert.Spec.lag (47 - 8 * (g : ℤ)))
    (X : Fin 32 → Fin 128 → Fin 64 → EReal) (x1 : Vec Ideal S512x128 .f32) (xs : Vec Ideal S32x80x1024 .f32)
    (hxs : ∀ b j c, xs (ix3 b j c) = Cert.Spec.xsh X b j.val (c.val / 128) ⟨c.val % 128, Nat.mod_lt _ (by decide)⟩)
    (inb : ∀ a, (![0, o, 0] : Fin 3 → ℕ) a + S32x80x512.size a ≤ S32x128x512.size a) (L : List (View.Piece (Elt Ideal) S32x128x512 .f32))
    (b : Fin 32) (τ : Fin 128) (q : Fin 512) :
    View.canon (accStep cst (k0_pay17 x1) (k0_pay19 xs) ![0, o, 0] inb L) (ix3 b τ q)
      = View.canon L (ix3 b τ q) + Cert.Spec.share X (fun s => x1 (ix2 q s)) b g τ.val := by
  rw [acc_step]
  unfold Cert.Spec.share
  subst ho
  by_cases h : 40 - 8 * g ≤ τ.val ∧ τ.val < 40 - 8 * g + 80
  · rw [dif_pos h, if_pos (by omega), grp_at cst _ hl]
    congr 1
    unfold Cert.Spec.group
    exact Finset.sum_congr rfl fun c _ => by rw [hxs]
  · rw [dif_neg h, if_neg (by omega), add_zero]

/-- The first group's share, with zeros in the rows it does not reach. -/
theorem acc3_at (X : Fin 32 → Fin 128 → Fin 64 → EReal) (x1 : Vec Ideal S512x128 .f32) (xs : Vec Ideal S32x80x1024 .f32)
    (hxs : ∀ b j c, xs (ix3 b j c) = Cert.Spec.xsh X b j.val (c.val / 128) ⟨c.val % 128, Nat.mod_lt _ (by decide)⟩)
    (b : Fin 32) (τ : Fin 128) (q : Fin 512) :
    View.canon (acc3 (k0_pay17 x1) (k0_pay19 xs)) (ix3 b τ q) = Cert.Spec.share X (fun s => x1 (ix2 q s)) b 0 τ.val := by
  have hb := b.isLt
  have hq := q.isLt
  have hτ := τ.isLt
  unfold acc3 Cert.Spec.share
  refine (canon_box3 _ _ _ b τ q).trans ?_
  by_cases h : 40 ≤ τ.val ∧ τ.val < 120
  · rw [if_pos (by omega), dif_pos (by omega)]
    refine (congrFun (shapeCast_self _ shapeCasts_S32x80x512_S32x80x512) _).trans ?_
    refine (grp_at _ 47 Cert.Spec.lag47_bits x1 xs _ _ _).trans ?_
    unfold Cert.Spec.group
    exact Finset.sum_congr rfl fun c _ => by rw [hxs]; rfl
  · rw [if_neg (by omega), dif_neg (by omega)]
    refine (canon_box3 _ _ _ b τ q).trans ?_
    by_cases h' : 120 ≤ τ.val
    · rw [dif_pos (by omega)]
      pointwise [k0_pay24]
    · rw [dif_neg (by omega)]
      refine (canon_box3 _ _ _ b τ q).trans ?_
      rw [dif_pos (by omega)]
      pointwise [k0_pay23]

/-- The potentials of a tile before the label's share: the six groups' shares. -/
theorem potv_at (X : Fin 32 → Fin 128 → Fin 64 → EReal) (x1 : Vec Ideal S512x128 .f32) (xs : Vec Ideal S32x80x1024 .f32)
    (hxs : ∀ b j c, xs (ix3 b j c) = Cert.Spec.xsh X b j.val (c.val / 128) ⟨c.val % 128, Nat.mod_lt _ (by decide)⟩)
    (b : Fin 32) (τ : Fin 128) (q : Fin 512) :
    potv x1 xs (ix3 b τ q)
      = Cert.Spec.share X (fun s => x1 (ix2 q s)) b 0 τ.val + Cert.Spec.share X (fun s => x1 (ix2 q s)) b 1 τ.val
        + Cert.Spec.share X (fun s => x1 (ix2 q s)) b 2 τ.val + Cert.Spec.share X (fun s => x1 (ix2 q s)) b 3 τ.val
        + Cert.Spec.share X (fun s => x1 (ix2 q s)) b 4 τ.val + Cert.Spec.share X (fun s => x1 (ix2 q s)) b 5 τ.val := by
  unfold potv acc8 acc7 acc6 acc5 acc4
  rw [acc_share _ 5 0 (by decide) (by decide) (by rw [Cert.Spec.lag7_bits]; norm_num) X x1 xs hxs,
    acc_share _ 4 8 (by decide) (by decide) (by rw [Cert.Spec.lag15_bits]; norm_num) X x1 xs hxs,
    acc_share _ 3 16 (by decide) (by decide) (by rw [Cert.Spec.lag23_bits]; norm_num) X x1 xs hxs,
    acc_share _ 2 24 (by decide) (by decide) (by rw [Cert.Spec.lag31_bits]; norm_num) X x1 xs hxs,
    acc_share _ 1 32 (by decide) (by decide) (by rw [Cert.Spec.lag39_bits]; norm_num) X x1 xs hxs]
  rw [acc3_at X x1 xs hxs]

end Cert.KernelIdeal.Own
-- ==== Proof.KernelIdealMax.lean ====
/- The running maximum of the first region on extended reals, tile after tile, and the arrays the region leaves. -/
module

public import proofs.«01_k».proof.Proof.KernelIdealPot

@[expose] public section

set_option maxRecDepth 16384

noncomputable section

namespace Cert.KernelIdeal.Own

open Cert.KernelIdeal.Gen
open Idealize.ShloMosaic Idealize.ShloMosaic.TcCoe
open Cert.Spec (FirstMax)
open scoped BigOperators

/-- A tile's largest potential in a row, as a fold of the maximum over its neurons. -/
theorem pay2_at (P : Vec Ideal S32x128x512 .f32) (Lb : FVec Ideal S32x1x512 .f32) (b : Fin 32) (τ : Fin 128) :
    k0_pay2 P Lb (ix2 b τ) = (Finset.univ : Finset (Fin 512)).fold max ⊥ (fun q => P (ix3 b τ q) + Lb (ix3 b 0 q)) := by
  pointwise [k0_pay2, k0_pay1]
  rw [Cert.Spec.bot_bits]

/-- The tile's largest potential in a row and the number of the first neuron that has it. -/
theorem tile_first (f : ℕ → EReal) (i : Fin 4) (w : ℕ) (hw : w = i.val) (P : Vec Ideal S32x128x512 .f32) (Lb : FVec Ideal S32x1x512 .f32) (b : Fin 32) (τ : Fin 128)
    (hf : ∀ q : Fin 512, P (ix3 b τ q) + Lb (ix3 b 0 q) = f q.val) :
    ∃ a, FirstMax f 512 (k0_pay2 P Lb (ix2 b τ)) a
      ∧ k0_pay3 (BitVec.ofNat 32 w) P Lb (ix2 b τ) = BitVec.ofNat 32 (512 * i.val + a) := by
  subst hw
  obtain ⟨a, ha⟩ := Cert.Spec.firstMax_fold 512 (by norm_num) f
  have e : k0_pay2 P Lb (ix2 b τ) = (Finset.univ : Finset (Fin 512)).fold max ⊥ (fun q => f q.val) := by
    rw [pay2_at]; simp only [hf]
  rw [← e] at ha
  refine ⟨a, ha, ?_⟩
  pointwise [k0_pay3, k0_pay1]
  simp only [hf]
  have ew : ∀ q : Fin 512, IntOp.addi (BitVec.ofNat 32 q.val) (Scalar.muli (BitVec.ofNat 32 i.val) 512#32) = BitVec.ofNat 32 (512 * i.val + q.val) := by
    intro q
    exact Cert.Spec.word_tile 512 q.val i.val
  simp only [ew]
  classical
  have hi := i.isLt
  obtain ⟨h1, h2, h3, h4⟩ := ha
  exact (Cert.Spec.fold_first (K := 512) (fun q => f q = k0_pay2 P Lb (ix2 b τ)) (512 * i.val) 1048576 (by omega) (by norm_num) (by norm_num)).1
    a h1 h2 (fun n hn => (h4 n hn).ne)

/-- A choice by a strict comparison, at a position. -/
theorem select_gt {e : EltTy} (p m : FVec Ideal S32x128 .f32) (u v : Vec Ideal S32x128 e) (j : S32x128.Idx) :
    select (cmpf .ogt p m) u v j = if m j < p j then u j else v j := by
  show Scalar.select (BitVec.ofBool (decide (m j < p j))) (u j) (v j) = _
  unfold Scalar.select
  by_cases h : m j < p j
  · rw [if_pos h, if_pos (by simp [h])]
  · rw [if_neg h, if_neg (by simp [h])]

/-- A later tile's largest potential takes over where it is larger than the running maximum. -/
theorem pay6_at (P : Vec Ideal S32x128x512 .f32) (Lb : FVec Ideal S32x1x512 .f32) (m : Vec Ideal S32x128 .f32) (j : S32x128.Idx) :
    k0_pay6 P Lb m m j = if m j < k0_pay2 P Lb j then k0_pay2 P Lb j else m j := by
  unfold k0_pay6 k0_pay4
  rw [shapeCast_self m shapeCasts_S32x128_S32x128]
  exact select_gt (e := .f32) _ m _ m j

/-- … and so does its position. -/
theorem pay5_at (w : BitVec 32) (P : Vec Ideal S32x128x512 .f32) (Lb : FVec Ideal S32x1x512 .f32) (m : Vec Ideal S32x128 .f32)
    (a : Vec Ideal S32x128 .i32) (j : S32x128.Idx) :
    k0_pay5 w P Lb m a j = if m j < k0_pay2 P Lb j then k0_pay3 w P Lb j else a j := by
  unfold k0_pay5 k0_pay4
  rw [shapeCast_self m shapeCasts_S32x128_S32x128, shapeCast_self a shapeCasts_S32x128_S32x128]
  exact select_gt (e := .i32) _ m _ a j

section
variable (V : (c : Dev nD) → (b : Ref sig .tc) → Buf (Elt Ideal) ((c : Thread nD τ).loc b)) (c : Dev nD)

/-- The input wave as the region finds it. -/
def inX : Fin 32 → Fin 128 → Fin 64 → EReal := fun b s u => V c main_v0 (ix3 b s u)
/-- The weights as the region finds them. -/
def inW : Fin 2048 → Fin 128 → EReal := fun n s => V c main_arg1 (ix2 n s)
/-- The labels as the region finds them. -/
def inL : Fin 32 → BitVec 32 := fun b => V c main_v1 (ix2 b 0)

/-- The first call's grid coordinate is the tile number. -/
theorem coords0 : ∀ t : Fin cfg0.N, ((grid0.coords t) 0).val = t.val := (by decide +kernel : ∀ t : Fin grid0.N, _)

/-- The input's block is the whole input at every point. -/
theorem iblk0_0_at (t : Fin cfg0.N) (b : Fin 32) (s : Fin 128) (u : Fin 64) : (iblk0 V c 0 t : Vec Ideal S32x128x64 .f32) (ix3 b s u) = inX V c b s u := by
  show V c main_v0 (((cfg0.win 0).blk t).view.emb (ix3 b s u)) = V c main_v0 (ix3 b s u)
  have hi : ∀ t : Fin cfg0.N, win0_0.index t (0 : Fin 3) = 0 ∧ win0_0.index t (1 : Fin 3) = 0 ∧ win0_0.index t (2 : Fin 3) = 0 :=
    (by decide +kernel : ∀ t : Fin grid0.N, _)
  obtain ⟨e0, e1, e2⟩ := hi t
  congr 1
  funext a
  apply Fin.ext
  match a with
  | ⟨0, _⟩ => show win0_0.index t (0 : Fin 3) * 32 + 1 * b.val = b.val; omega
  | ⟨1, _⟩ => show win0_0.index t (1 : Fin 3) * 128 + 1 * s.val = s.val; omega
  | ⟨2, _⟩ => show win0_0.index t (2 : Fin 3) * 64 + 1 * u.val = u.val; omega

/-- The weights' block at a point is the point's 512 neurons. -/
theorem iblk0_1_at (t : Fin cfg0.N) (q : Fin 512) (s : Fin 128) :
    (iblk0 V c 1 t : Vec Ideal S512x128 .f32) (ix2 q s)
      = inW V c ⟨512 * t.val + q.val, by have := lt_of_lt_of_eq t.isLt (show cfg0.N = 4 from N_0); omega⟩ s := by
  have hi : ∀ t : Fin cfg0.N, win0_1.index t (0 : Fin 2) = t.val ∧ win0_1.index t (1 : Fin 2) = 0 :=
    (by decide +kernel : ∀ t : Fin grid0.N, _)
  obtain ⟨e0, e1⟩ := hi t
  show V c main_arg1 (((cfg0.win 1).blk t).view.emb (ix2 q s)) = V c main_arg1 (ix2 _ s)
  congr 1
  funext a
  apply Fin.ext
  match a with
  | ⟨0, _⟩ => show win0_1.index t (0 : Fin 2) * 512 + 1 * q.val = 512 * t.val + q.val; omega
  | ⟨1, _⟩ => show win0_1.index t (1 : Fin 2) * 128 + 1 * s.val = s.val; omega

/-- The labels' block is all labels at every point. -/
theorem iblk0_2_at (t : Fin cfg0.N) (b : Fin 32) : (iblk0 V c 2 t : Vec Ideal S32x1 .i32) (ix2 b 0) = inL V c b := by
  have hi : ∀ t : Fin cfg0.N, win0_2.index t (0 : Fin 2) = 0 ∧ win0_2.index t (1 : Fin 2) = 0 :=
    (by decide +kernel : ∀ t : Fin grid0.N, _)
  obtain ⟨e0, e1⟩ := hi t
  show V c main_v1 (((cfg0.win 2).blk t).view.emb (ix2 b 0)) = V c main_v1 (ix2 b 0)
  congr 1
  funext a
  apply Fin.ext
  match a with
  | ⟨0, _⟩ => show win0_2.index t (0 : Fin 2) * 32 + 1 * b.val = b.val; omega
  | ⟨1, _⟩ => show win0_2.index t (1 : Fin 2) * 1 + 1 * 0 = 0; omega

/-- The label's share at point `t`'s neurons. -/
abbrev lab0 (t : Fin cfg0.N) : FVec Ideal S32x1x512 .f32 := k0_pay36 (BitVec.ofNat 32 ((grid0.coords t) 0).val) (iblk0 V c 2 t)

/-- The rearranged input, from the first point's block. -/
abbrev xs0 : Vec Ideal S32x80x1024 .f32 := xsv (iblk0 V c 0 ⟨0, lt_of_lt_of_eq (by decide) N_0.symm⟩)

/-- The potentials of point `t`'s neurons at every row. -/
theorem tile_pot (t : Fin cfg0.N) (b : Fin 32) (τ : Fin 128) (q : Fin 512) :
    potv (iblk0 V c 1 t) (xs0 V c) (ix3 b τ q) + lab0 V c t (ix3 b 0 q)
      = Cert.Spec.row (inX V c) (inW V c) (inL V c) b τ.val (512 * t.val + q.val) := by
  have ht := lt_of_lt_of_eq t.isLt (show cfg0.N = 4 from N_0)
  rw [potv_at (inX V c) _ _ (fun b j c' => (xsv_at _ b j c').trans (by simp only [iblk0_0_at]))]
  have e : lab0 V c t (ix3 b 0 q) = Cert.Spec.boost (inL V c) b ⟨512 * t.val + q.val, by omega⟩ := by
    unfold lab0 Cert.Spec.boost
    rw [coords0 t]
    refine (pay36_at ⟨t.val, ht⟩ _ b q).trans ?_
    rw [iblk0_2_at]
  rw [e]
  unfold Cert.Spec.row
  rw [dif_pos (by omega)]
  simp only [iblk0_1_at]

/-- What the running maximum, its position and the rearranged input hold after point `n`: the maximum over the neurons of
    the tiles so far, the first neuron that has it, and the input laid out by the first point. -/
theorem outs_at (n : ℕ) (hn : n < cfg0.N) :
    (∀ (b : Fin 32) (τ : Fin 128), ∃ a, FirstMax (Cert.Spec.row (inX V c) (inW V c) (inL V c) b τ.val) (512 * (n + 1)) ((outsAt0 V c n hn).1 (ix2 b τ)) a
        ∧ (outsAt0 V c n hn).2.1 (ix2 b τ) = BitVec.ofNat 32 a)
      ∧ (outsAt0 V c n hn).2.2 = xs0 V c := by
  induction n with
  | zero =>
    have e := outsAt0_A V c ⟨0, hn⟩ (Nat.zero_mod _) (Nat.zero_mod _) (by show ¬ 1 ≤ 0; omega)
    have e' : outsAt0 V c 0 hn = _ := e
    rw [e']
    dsimp only
    rw [outA3, outA4, soutA1]
    refine ⟨fun b τ => ?_, rfl⟩
    obtain ⟨a, h1, h2⟩ := tile_first (fun q => Cert.Spec.row (inX V c) (inW V c) (inL V c) b τ.val (512 * 0 + q)) ⟨0, by decide⟩ _ (coords0 ⟨0, hn⟩) (potv (iblk0 V c 1 ⟨0, hn⟩) (xs0 V c)) (lab0 V c ⟨0, hn⟩) b τ (fun q => tile_pot V c ⟨0, hn⟩ b τ q)
    refine ⟨a, ?_, ?_⟩
    · exact h1.congr fun m hm => by show Cert.Spec.row _ _ _ b τ.val (512 * 0 + m) = _; rw [Nat.mul_zero, Nat.zero_add]
    · refine h2.trans ?_
      show BitVec.ofNat 32 (512 * 0 + a) = _; rw [Nat.mul_zero, Nat.zero_add]
  | succ n ih =>
    have hN := lt_of_lt_of_eq hn (show cfg0.N = 4 from N_0)
    obtain ⟨ih1, ih2⟩ := ih (Nat.lt_of_succ_lt hn)
    have e := outsAt0_B V c ⟨n + 1, hn⟩ (by show ¬ (n + 1) % 4 = 0; omega) (by show ¬ (n + 1) % 4 = 0; omega) (by show 1 ≤ n + 1; omega)
    have e' : outsAt0 V c (n + 1) hn = _ := e
    rw [e']
    dsimp only
    rw [outB3, outB4]
    have en : ∀ h, outsAt0 V c (n + 1 - 1) h = outsAt0 V c n (Nat.lt_of_succ_lt hn) := fun h => rfl
    refine ⟨fun b τ => ?_, ih2⟩
    simp only [en, ih2]
    rw [pay6_at, pay5_at]
    obtain ⟨a, h1, h2⟩ := tile_first (fun q => Cert.Spec.row (inX V c) (inW V c) (inL V c) b τ.val (512 * (n + 1) + q)) ⟨n + 1, hN⟩ _ (coords0 ⟨n + 1, hn⟩)
      (potv (iblk0 V c 1 ⟨n + 1, hn⟩) (xs0 V c)) (lab0 V c ⟨n + 1, hn⟩) b τ (fun q => tile_pot V c ⟨n + 1, hn⟩ b τ q)
    obtain ⟨a', g1, g2⟩ := ih1 b τ
    refine ⟨_, Cert.Spec.FirstMax.append g1 h1, ?_⟩
    rw [h2, g2]
    split
    · rfl
    · rfl

/-- An index is in a point's block when each coordinate is in the block's range. -/
theorem mem_blk3 (t : Fin cfg0.N) (i : S32x128.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v2_0).slice (win0_3.rect t)).set ↔ _
  rw [View.set_slice_whole, Rect.mem_set_unit]
  exact Iff.rfl

theorem mem_blk4 (t : Fin cfg0.N) (i : S32x128.Idx) :
    i ∈ ((cfg0.win 4).blk t).view.set ↔ ∀ a : Fin 2, win0_4.index t a * S32x128.size a ≤ (i a).val ∧ (i a).val < win0_4.index t a * S32x128.size a + S32x128.size a := by
  show i ∈ ((View.whole main_v2_1).slice (win0_4.rect t)).set ↔ _
  rw [View.set_slice_whole, Rect.mem_set_unit]
  exact Iff.rfl

/-- The running maximum's array after the region: what the last point leaves. -/
theorem final3 : (dat0 V c).arrAt 3 cfg0.N = (outsAt0 V c 3 (lt_of_lt_of_eq (by decide) N_0.symm)).1 := by
  have hi : ∀ t : Fin cfg0.N, win0_3.index t (0 : Fin 2) = 0 ∧ win0_3.index t (1 : Fin 2) = 0 := (by decide +kernel : ∀ t : Fin grid0.N, _)
  refine (dat0 V c).arrAt_eq_of_cover 3 _ (fun t hf => ?_) (fun i => ⟨⟨3, lt_of_lt_of_eq (by decide) N_0.symm⟩, (flush0_3 _).mpr rfl, ?_⟩)
  · have h3 : t.val % 4 = 3 := (flush0_3 t).mp hf
    have ht := lt_of_lt_of_eq t.isLt (show cfg0.N = 4 from N_0)
    obtain rfl : t = ⟨3, lt_of_lt_of_eq (by decide) N_0.symm⟩ := Fin.ext (by show t.val = 3; omega)
    obtain ⟨e0, e1⟩ := hi ⟨3, lt_of_lt_of_eq (by decide) N_0.symm⟩
    show (cfg0.win 3).cut (grid0.coords _) ((dat0 V c).after 3 _) = _
    rw [after0_3]
    funext y
    refine congrArg (outsAt0 V c 3 (lt_of_lt_of_eq (by decide) N_0.symm)).1 (funext fun a => Fin.ext ?_)
    match a with
    | ⟨0, _⟩ => show (y 0).val = win0_3.index _ (0 : Fin 2) * 32 + 1 * (y 0).val; omega
    | ⟨1, _⟩ => show (y 1).val = win0_3.index _ (1 : Fin 2) * 128 + 1 * (y 1).val; omega
  · obtain ⟨e0, e1⟩ := hi ⟨3, lt_of_lt_of_eq (by decide) N_0.symm⟩
    refine (mem_blk3 _ i).mpr (fun a => ?_)
    match a with
    | ⟨0, _⟩ => show win0_3.index _ (0 : Fin 2) * 32 ≤ (i 0).val ∧ (i 0).val < win0_3.index _ (0 : Fin 2) * 32 + 32; have : (i 0).val < 32 := (i 0).isLt; omega
    | ⟨1, _⟩ => show win0_3.index _ (1 : Fin 2) * 128 ≤ (i 1).val ∧ (i 1).val < win0_3.index _ (1 : Fin 2) * 128 + 128; have : (i 1).val < 128 := (i 1).isLt; omega

/-- The position's array after the region: what the last point leaves. -/
theorem final4 : (dat0 V c).arrAt 4 cfg0.N = (outsAt0 V c 3 (lt_of_lt_of_eq (by decide) N_0.symm)).2.1 := by
  have hi : ∀ t : Fin cfg0.N, win0_4.index t (0 : Fin 2) = 0 ∧ win0_4.index t (1 : Fin 2) = 0 := (by decide +kernel : ∀ t : Fin grid0.N, _)
  refine (dat0 V c).arrAt_eq_of_cover 4 _ (fun t hf => ?_) (fun i => ⟨⟨3, lt_of_lt_of_eq (by decide) N_0.symm⟩, (flush0_4 _).mpr rfl, ?_⟩)
  · have h3 : t.val % 4 = 3 := (flush0_4 t).mp hf
    have ht := lt_of_lt_of_eq t.isLt (show cfg0.N = 4 from N_0)
    obtain rfl : t = ⟨3, lt_of_lt_of_eq (by decide) N_0.symm⟩ := Fin.ext (by show t.val = 3; omega)
    obtain ⟨e0, e1⟩ := hi ⟨3, lt_of_lt_of_eq (by decide) N_0.symm⟩
    show (cfg0.win 4).cut (grid0.coords _) ((dat0 V c).after 4 _) = _
    rw [after0_4]
    funext y
    refine congrArg (outsAt0 V c 3 (lt_of_lt_of_eq (by decide) N_0.symm)).2.1 (funext fun a => Fin.ext ?_)
    match a with
    | ⟨0, _⟩ => show (y 0).val = win0_4.index _ (0 : Fin 2) * 32 + 1 * (y 0).val; omega
    | ⟨1, _⟩ => show (y 1).val = win0_4.index _ (1 : Fin 2) * 128 + 1 * (y 1).val; omega
  · obtain ⟨e0, e1⟩ := hi ⟨3, lt_of_lt_of_eq (by decide) N_0.symm⟩
    refine (mem_blk4 _ i).mpr (fun a => ?_)
    match a with
    | ⟨0, _⟩ => show win0_4.index _ (0 : Fin 2) * 32 ≤ (i 0).val ∧ (i 0).val < win0_4.index _ (0 : Fin 2) * 32 + 32; have : (i 0).val < 32 := (i 0).isLt; omega
    | ⟨1, _⟩ => show win0_4.index _ (1 : Fin 2) * 128 ≤ (i 1).val ∧ (i 1).val < win0_4.index _ (1 : Fin 2) * 128 + 128; have : (i 1).val < 128 := (i 1).isLt; omega

/-- After the region, at every sample and row: the largest potential over all neurons, and the first neuron that has it. -/
theorem final_max (b : Fin 32) (τ : Fin 128) :
    ∃ a, FirstMax (Cert.Spec.row (inX V c) (inW V c) (inL V c) b τ.val) 2048 ((dat0 V c).arrAt 3 cfg0.N (ix2 b τ)) a
      ∧ (dat0 V c).arrAt 4 cfg0.N (ix2 b τ) = BitVec.ofNat 32 a := by
  rw [final3, final4]
  exact (outs_at V c 3 _).1 b τ

end

end Cert.KernelIdeal.Own
-- ==== Proof.KernelIdealSecond.lean ====
/- The second region (the spikes spread over the neurons): its blocks, the triple of its body, and the obligation at each grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! # REGION 1 of @main: custom_call 1, `cc1__phase2` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`):
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S32x128 := Rect.unit (s := S32x128) ![0, 0] S32x128.size inb_S32x128_S32x128_0_0
abbrev r1_1 : Rect S32x256x81 := Rect.unit (s := S32x256x81) ![0, 0, 0] S32x256x81.size inb_S32x256x81_S32x256x81_0_0_0

/-! ## What the body leaves in each output window's buffer -/

/-- Window 2's staging buffer after the body, from the input windows' blocks: its 1 store as pieces, LAST
    FIRST . -/
def out1_2 (i : grid1.Coords) (x0 : Vec F S32x128 .f32) (x1 : Vec F S32x128 .i32) : Vec F S32x256x81 .f32 :=
  View.canon [⟨r1_1, k1_pay1 i (View.ld x0 r1_0) (View.ld x1 r1_0)⟩]

/-- Its stores tile the buffer (checked by evaluation), so they cover it. -/
theorem cover1_2 (p0 : Vec F S32x256x81 .f32) (y : S32x256x81.Idx) :
    ∃ pc ∈ ([⟨r1_1, p0⟩] : List (View.Piece (Elt F) S32x256x81 .f32)), y ∈ pc.1.set :=
  View.cover_of_tiled [⟨r1_1, p0⟩] S32x256x81.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs , through every part call. -/
theorem sound_kernel1 (c : Dev nD) (E : Set ℕ) (i : grid1.Coords) (arg1 : Memref sig .tc .vmem S32x128 .f32) (harg1 : arg1.IsWhole) (arg2 : Memref sig .tc .vmem S32x128 .i32) (harg2 : arg2.IsWhole) (arg3 : Memref sig .tc .vmem S32x256x81 .f32) (harg3 : arg3.IsWhole)
    (x0 : Vec F S32x128 .f32) (x1 : Vec F S32x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 i x0 x1)) -∗ K ⟨⟩))
      ⊢ wp frame (wpE (defs₀ (F := F)) Variants.none c none) E (cc1__phase2 i arg1 harg1 arg2 harg2 arg3 harg3) K := by
  simp only [cc1__phase2_eq_skeleton]; unfold cc1__phase2_skel
  simp only [k1_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's ; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (grid1.coords t) (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.KernelIdealSpikes.lean ====
/- The second region read on extended reals: from the rows' maxima and positions, which neuron spikes at which step. -/
module

public import proofs.«01_k».proof.Proof.KernelIdealSecond
public import proofs.«01_k».proof.Proof.Spec
public import Idealize.ShloMosaic.Lib.Pointwise
public import Idealize.ShloMosaic.Lib.Pipeline.Value

@[expose] public section

set_option maxRecDepth 16384

noncomputable section

namespace Cert.KernelIdeal.Own

open Cert.KernelIdeal.Gen
open Idealize.ShloMosaic Idealize.ShloMosaic.TcCoe
open scoped BigOperators

open Cert.Spec (FirstFrom spk)

open Classical in
/-- A proposition as a one-bit word. -/
def bit (p : Prop) : BitVec 1 := if p then 1#1 else 0#1

/-- The bit of a decision is the bit of its proposition. -/
theorem bit_decide (p : Prop) {inst : Decidable p} : BitVec.ofBool (@decide p inst) = bit p := by
  unfold bit
  by_cases h : p
  · simp [h]
  · simp [h]

/-- Equivalent propositions have the same bit. -/
theorem bit_congr {p q : Prop} (h : p ↔ q) : bit p = bit q := by rw [propext h]

/-- The conjunction of two bits. -/
theorem bit_and (p q : Prop) : IntOp.andi (bit p) (bit q) = bit (p ∧ q) := by
  unfold bit
  by_cases h : p <;> by_cases h' : q <;> simp [h, h'] <;> decide

/-- The disjunction of two bits. -/
theorem bit_or (p q : Prop) : IntOp.ori (bit p) (bit q) = bit (p ∨ q) := by
  unfold bit
  by_cases h : p <;> by_cases h' : q <;> simp [h, h'] <;> decide

open Classical in
/-- A selection by the bit of a proposition is a case distinction. -/
theorem select_bit {α : Type} (p : Prop) (x y : α) : Scalar.select (bit p) x y = if p then x else y := by
  unfold Scalar.select bit
  by_cases h : p
  · simp [h]
  · simp [h]

/-- The second region's first fold takes: at every row where `p` holds its number, elsewhere a number past all rows. -/
def rowOr (c : BitVec 1) (k : Fin 128) : BitVec 32 := Scalar.select c (BitVec.ofNat 32 k.val) 1048576#32

open Classical in
theorem rowOr_if (p : Prop) (k : Fin 128) :
    rowOr (bit p) k = if p then BitVec.ofNat 32 (0 + k.val) else BitVec.ofNat 32 1048576 := by
  unfold rowOr
  rw [select_bit, Nat.zero_add]

/-- Two row numbers are equal as words exactly if they are equal. -/
theorem row_eq_word : ∀ k l : Fin 128, IntOp.cmpi .eq (BitVec.ofNat 32 k.val) (BitVec.ofNat 32 l.val) = bit (k.val = l.val) := by
  simp only [← bit_decide]; decide +kernel
/-- No row number equals the word that stands for none. -/
theorem row_ne_far : ∀ k : Fin 128, IntOp.cmpi .eq (BitVec.ofNat 32 k.val) (BitVec.ofNat 32 1048576) = bit False := by
  simp only [← bit_decide]; decide +kernel
theorem row_ge_word : ∀ k l : Fin 128,
    IntOp.cmpi .sge (BitVec.ofNat 32 k.val) (IntOp.addi (BitVec.ofNat 32 l.val) 48#32) = bit (l.val + 48 ≤ k.val) := by
  simp only [← bit_decide]; decide +kernel
/-- No row number reaches 48 past the word that stands for none. -/
theorem row_ge_far : ∀ k : Fin 128, IntOp.cmpi .sge (BitVec.ofNat 32 k.val) (IntOp.addi (BitVec.ofNat 32 1048576) 48#32) = bit False := by
  simp only [← bit_decide]; decide +kernel
theorem row_inside : ∀ k : Fin 128,
    IntOp.andi (IntOp.cmpi .sge (BitVec.ofNat 32 k.val) 15#32) (IntOp.cmpi .slt (BitVec.ofNat 32 k.val) 96#32)
      = bit (15 ≤ k.val ∧ k.val < 96) := by
  simp only [← bit_decide]; decide +kernel

/-- Among the numbers from `lo` on, a property holds somewhere first or nowhere. -/
theorem first_or_none (p : ℕ → Prop) (lo : ℕ) : (∃ s, FirstFrom p lo s) ∨ ∀ u, lo ≤ u → ¬ p u := by
  classical
  by_cases h : ∃ u, lo ≤ u ∧ p u
  · exact .inl ⟨Nat.find h, (Nat.find_spec h).1, (Nat.find_spec h).2, fun u h1 h2 h3 => Nat.find_min h h2 ⟨h1, h3⟩⟩
  · exact .inr fun u h1 h2 => h ⟨u, h1, h2⟩

open Classical in
/-- A fold over the rows finds the first row, from `lo` on, where `p` holds, -/
theorem fold_row (p : ℕ → Prop) (lo s : ℕ) (hs : s < 128) (h : FirstFrom p lo s) :
    Finset.fold IntOp.minsi 2147483647#32 (fun k : Fin 128 => rowOr (bit (p k.val ∧ lo ≤ k.val)) k) Finset.univ = BitVec.ofNat 32 s := by
  simp only [rowOr_if]
  refine ((@Cert.Spec.fold_first 128 (fun u => p u ∧ lo ≤ u) (fun _ => Classical.propDecidable _) 0 1048576 (by norm_num) (by norm_num) (by norm_num)).1 s hs ⟨h.2.1, h.1⟩
    (fun n hn hp => h.2.2 n hp.2 hn hp.1)).trans ?_
  rw [Nat.zero_add]

open Classical in
/-- and the number past all rows when there is none. -/
theorem fold_none (p : ℕ → Prop) (lo : ℕ) (h : ∀ u, lo ≤ u → ¬ p u) :
    Finset.fold IntOp.minsi 2147483647#32 (fun k : Fin 128 => rowOr (bit (p k.val ∧ lo ≤ k.val)) k) Finset.univ = BitVec.ofNat 32 1048576 := by
  simp only [rowOr_if]
  exact (@Cert.Spec.fold_first 128 (fun u => p u ∧ lo ≤ u) (fun _ => Classical.propDecidable _) 0 1048576 (by norm_num) (by norm_num) (by norm_num)).2
    (fun n _ hp => h n hp.2 hp.1)

open Classical in
/-- The two folds and the two comparisons: a row is the first where `p` holds, or the first 48 or more rows after it. -/
theorem two_folds (p : ℕ → Prop) (hp : ∀ u, p u → 15 ≤ u ∧ u < 96) (k : Fin 128) (s1 : BitVec 32)
    (h1 : s1 = Finset.fold IntOp.minsi 2147483647#32 (fun k : Fin 128 => rowOr (bit (p k.val)) k) Finset.univ) :
    IntOp.ori (IntOp.cmpi .eq (BitVec.ofNat 32 k.val) s1)
      (IntOp.cmpi .eq (BitVec.ofNat 32 k.val)
        (Finset.fold IntOp.minsi 2147483647#32
          (fun k : Fin 128 => rowOr (IntOp.andi (bit (p k.val)) (IntOp.cmpi .sge (BitVec.ofNat 32 k.val) (IntOp.addi s1 48#32))) k)
          Finset.univ))
      = bit (FirstFrom p 0 k.val ∨ ∃ s, FirstFrom p 0 s ∧ FirstFrom p (s + 48) k.val) := by
  have e0 : s1 = Finset.fold IntOp.minsi 2147483647#32 (fun k : Fin 128 => rowOr (bit (p k.val ∧ 0 ≤ k.val)) k) Finset.univ := by
    rw [h1]; simp only [Nat.zero_le, and_true]
  rcases first_or_none p 0 with ⟨s, hs⟩ | hn
  · have ls : s < 128 := by have := (hp s hs.2.1).2; omega
    rw [fold_row p 0 s ls hs] at e0
    subst e0
    have e1 := row_eq_word k ⟨s, ls⟩
    have e2 := fun k => row_ge_word k ⟨s, ls⟩
    dsimp only at e1 e2
    simp only [e1, e2, bit_and]
    have u1 : k.val = s ↔ FirstFrom p 0 k.val := ⟨fun h => h ▸ hs, fun h => h.unique hs⟩
    rcases first_or_none p (s + 48) with ⟨s', hs'⟩ | hn'
    · have ls' : s' < 128 := by have := (hp s' hs'.2.1).2; omega
      have e3 := row_eq_word k ⟨s', ls'⟩
      dsimp only at e3
      rw [fold_row p (s + 48) s' ls' hs', e3, bit_or]
      refine bit_congr ?_
      rw [u1]
      refine or_congr Iff.rfl ⟨fun h => ⟨s, hs, h ▸ hs'⟩, fun ⟨s2, h2, h3⟩ => ?_⟩
      obtain rfl := h2.unique hs
      exact h3.unique hs'
    · rw [fold_none p (s + 48) hn', row_ne_far, bit_or]
      refine bit_congr ?_
      rw [u1]
      refine or_congr Iff.rfl ⟨fun h => h.elim, fun ⟨s2, h2, h3⟩ => ?_⟩
      obtain rfl := h2.unique hs
      exact hn' _ h3.1 h3.2.1
  · rw [fold_none p 0 hn] at e0
    subst e0
    have hz : ∀ u, ¬ p u := fun u => hn u (Nat.zero_le _)
    simp only [row_ge_far, bit_and, and_false]
    have e4 : Finset.fold IntOp.minsi 2147483647#32 (fun k : Fin 128 => rowOr (bit False) k) Finset.univ = BitVec.ofNat 32 1048576 := by
      have := fold_none (fun _ => False) 0 (fun _ _ h => h)
      simpa only [false_and] using this
    rw [e4, row_ne_far, bit_or]
    refine bit_congr ?_
    exact ⟨fun h => (or_self_iff.mp h).elim, fun h => h.elim (fun h => (hz _ h.2.1).elim) (fun ⟨s, h, _⟩ => (hz _ h.2.1).elim)⟩

/-- Whether a sample's largest potential at a step is above the threshold. -/
def above (m : Vec Ideal S32x128 .f32) (b : Fin 32) (t : ℕ) : Prop :=
  ∃ h : t < 81, Cert.Spec.theta < m (ix2 b ⟨15 + t, by omega⟩)

/-- The same with rows in the place of steps. -/
def aboveRow (m : Vec Ideal S32x128 .f32) (b : Fin 32) (u : ℕ) : Prop :=
  ∃ h : u < 128, Cert.Spec.theta < m (ix2 b ⟨u, h⟩) ∧ 15 ≤ u ∧ u < 96

theorem above_row (m : Vec Ideal S32x128 .f32) (b : Fin 32) (t : ℕ) : aboveRow m b (15 + t) ↔ above m b t :=
  ⟨fun ⟨_, h1, _, h2⟩ => ⟨by omega, h1⟩, fun ⟨h, h1⟩ => ⟨by omega, h1, by omega, by omega⟩⟩

theorem first_row (m : Vec Ideal S32x128 .f32) (b : Fin 32) (lo lo' t : ℕ) (h : ∀ u, lo ≤ 15 + u ↔ lo' ≤ u) :
    FirstFrom (aboveRow m b) lo (15 + t) ↔ FirstFrom (above m b) lo' t := by
  constructor
  · rintro ⟨h1, h2, h3⟩
    exact ⟨(h t).mp h1, (above_row m b t).mp h2, fun u l1 l2 l3 => h3 (15 + u) ((h u).mpr l1) (by omega) ((above_row m b u).mpr l3)⟩
  · rintro ⟨h1, h2, h3⟩
    refine ⟨(h t).mpr h1, (above_row m b t).mpr h2, fun u l1 l2 l3 => ?_⟩
    obtain ⟨v, rfl⟩ : ∃ v, u = 15 + v := ⟨u - 15, by have := l3.2.2.1; omega⟩
    exact h3 v ((h v).mp l1) (by omega) ((above_row m b v).mp l3)

/-- The rows the two folds find are the steps of a spike. -/
theorem spike_row (m : Vec Ideal S32x128 .f32) (b : Fin 32) (t : ℕ) (ht : t < 81) :
    (FirstFrom (aboveRow m b) 0 (15 + t) ∨ ∃ s, FirstFrom (aboveRow m b) 0 s ∧ FirstFrom (aboveRow m b) (s + 48) (15 + t))
      ↔ spk (above m b) t := by
  rw [Cert.Spec.spk_iff _ _ (by omega), first_row m b 0 0 t (fun u => by omega)]
  refine or_congr Iff.rfl ⟨fun ⟨s, h1, h2⟩ => ?_, fun ⟨s, h1, h2⟩ => ⟨15 + s, ?_, ?_⟩⟩
  · obtain ⟨v, rfl⟩ : ∃ v, s = 15 + v := ⟨s - 15, by have := h1.2.1.2.2.1; omega⟩
    exact ⟨v, (first_row m b 0 0 v (fun u => by omega)).mp h1, (first_row m b _ (v + 48) t (fun u => by omega)).mp h2⟩
  · exact (first_row m b 0 0 s (fun u => by omega)).mpr h1
  · exact (first_row m b _ (s + 48) t (fun u => by omega)).mpr h2

open Classical in
/-- The comparison of two words as a number. -/
theorem one_hot (x y : BitVec 32) : (FloatOps.sitofp .f32 (BitVec.setWidth 32 (IntOp.cmpi .eq x y)) : Ideal .f32) = if x = y then (1 : EReal) else 0 := by
  by_cases h : x = y
  · subst h
    rw [if_pos rfl, show IntOp.cmpi .eq x x = 1#1 from by simp [IntOp.cmpi]]
    show (((BitVec.setWidth 32 1#1).toInt : ℝ) : EReal) = 1
    rw [show (BitVec.setWidth 32 1#1).toInt = 1 from by decide]
    simp
  · rw [if_neg h, show IntOp.cmpi .eq x y = 0#1 from by
      show BitVec.ofBool (x == y) = 0#1
      rw [beq_false_of_ne h]; rfl]
    show (((BitVec.setWidth 32 0#1).toInt : ℝ) : EReal) = 0
    rw [show (BitVec.setWidth 32 0#1).toInt = 0 from by decide]
    simp

/-- Whether the row's value passes the threshold and the row is that of a step. -/
def passes (f : Fin 128 → EReal) (x : Fin 128) : BitVec 1 :=
  IntOp.andi (BitVec.ofBool (decide (Cert.Spec.theta < f x)))
    (IntOp.andi (IntOp.cmpi .sge (BitVec.ofNat 32 x.val) 15#32) (IntOp.cmpi .slt (BitVec.ofNat 32 x.val) 96#32))

open Classical in
/-- The word the second region compares a neuron's number with. -/
theorem win_word (m : Vec Ideal S32x128 .f32) (b : Fin 32) (t : Fin 81) (A : BitVec 32) :
    Scalar.select
      (IntOp.ori
        (IntOp.cmpi .eq (BitVec.ofNat 32 (15 + t.val))
          (Finset.fold IntOp.minsi 2147483647#32 (fun x => rowOr (passes (fun x => m (ix2 b x)) x) x) Finset.univ))
        (IntOp.cmpi .eq (BitVec.ofNat 32 (15 + t.val))
          (Finset.fold IntOp.minsi 2147483647#32
            (fun x => rowOr (IntOp.andi (passes (fun x => m (ix2 b x)) x) (IntOp.cmpi .sge (BitVec.ofNat 32 x.val)
              (IntOp.addi (Finset.fold IntOp.minsi 2147483647#32 (fun x => rowOr (passes (fun x => m (ix2 b x)) x) x) Finset.univ) 48#32))) x)
            Finset.univ)))
      A 4294967295#32 = if spk (above m b) t.val then A else 4294967295#32 := by
  have e : ∀ x : Fin 128, passes (fun x => m (ix2 b x)) x = bit (aboveRow m b x.val) := fun x => by
    unfold passes
    rw [row_inside, bit_decide, bit_and]
    exact bit_congr ⟨fun h => ⟨x.isLt, h⟩, fun ⟨_, h⟩ => h⟩
  simp only [e]
  have key := two_folds (aboveRow m b) (fun u ⟨_, _, h⟩ => h) ⟨15 + t.val, by omega⟩ _ rfl
  dsimp only at key
  rw [key, select_bit]
  simp only [spike_row m b t.val t.isLt]

open Classical in
theorem k1_sel (i : grid1.Coords) (m : Vec Ideal S32x128 .f32) (a : Vec Ideal S32x128 .i32) (b : Fin 32) (q : Fin 256) (t : Fin 81) :
    k1_pay1 i m a (ix3 b q t) = if IntOp.addi (BitVec.ofNat 32 q.val) (Scalar.muli (BitVec.ofNat 32 (i 0).val) 256#32)
      = (if spk (above m b) t.val then a (ix2 b ⟨15 + t.val, by omega⟩) else 4294967295#32) then (1 : EReal) else 0 := by
  pointwise [k1_pay1]
  refine (one_hot _ _).trans (if_congr (Eq.congr_right ?_) rfl rfl)
  exact win_word m b t (a (ix2 b ⟨15 + t.val, by omega⟩))

open Classical in
/-- What the second region writes: one at the sample's winning neuron of a step that spikes, zero elsewhere. -/
theorem k1_at (i : grid1.Coords) (m : Vec Ideal S32x128 .f32) (a : Vec Ideal S32x128 .i32) (b : Fin 32) (q : Fin 256) (t : Fin 81)
    (a' : ℕ) (ha : a' < 2048) (h : a (ix2 b ⟨15 + t.val, by omega⟩) = BitVec.ofNat 32 a') (hi : (i 0).val < 8) :
    k1_pay1 i m a (ix3 b q t) = if spk (above m b) t.val ∧ 256 * (i 0).val + q.val = a' then (1 : EReal) else 0 := by
  have hq := q.isLt
  rw [k1_sel, h]
  have ew : IntOp.addi (BitVec.ofNat 32 q.val) (Scalar.muli (BitVec.ofNat 32 (i 0).val) 256#32) = BitVec.ofNat 32 (256 * (i 0).val + q.val) :=
    Cert.Spec.word_tile 256 q.val (i 0).val
  rw [ew]
  have inj : ∀ x y : ℕ, x < 4294967296 → y < 4294967296 → (BitVec.ofNat 32 x = BitVec.ofNat 32 y ↔ x = y) := fun x y hx hy => by
    rw [← BitVec.toNat_inj, BitVec.toNat_ofNat, BitVec.toNat_ofNat]
    norm_num
    rw [Nat.mod_eq_of_lt hx, Nat.mod_eq_of_lt hy]
  by_cases hs : spk (above m b) t.val
  · simp only [hs, if_true, true_and]
    rw [if_congr (inj _ _ (by omega) (by omega)) rfl rfl]
  · simp only [hs, if_false, false_and]
    rw [if_neg]
    intro h'
    have := (inj (256 * (i 0).val + q.val) 4294967295 (by omega) (by norm_num)).mp h'
    omega

section
variable (V : (c : Dev nD) → (b : Ref sig .tc) → Buf (Elt Ideal) ((c : Thread nD τ).loc b)) (c : Dev nD)

/-- The second call's grid coordinate is the step number. -/
theorem coords1 : ∀ t : Fin cfg1.N, ((grid1.coords t) 0).val = t.val := by decide +kernel

/-- The second call's block of maxima is the whole array. -/
theorem iblk1_0_at (t : Fin cfg1.N) (b : Fin 32) (u : Fin 128) : iblk1 V c 0 t (ix2 b u) = V c main_v2_0 (ix2 b u) := by
  have hi : ∀ t : Fin cfg1.N, win1_0.index t (0 : Fin 2) = 0 ∧ win1_0.index t (1 : Fin 2) = 0 := (by decide +kernel : ∀ t : Fin grid1.N, _)
  obtain ⟨e0, e1⟩ := hi t
  refine congrArg (V c main_v2_0) (funext fun a => Fin.ext ?_)
  match a with
  | ⟨0, _⟩ => show win1_0.index t (0 : Fin 2) * 32 + 1 * b.val = b.val; omega
  | ⟨1, _⟩ => show win1_0.index t (1 : Fin 2) * 128 + 1 * u.val = u.val; omega

/-- The second call's block of indices is the whole array. -/
theorem iblk1_1_at (t : Fin cfg1.N) (b : Fin 32) (u : Fin 128) : iblk1 V c 1 t (ix2 b u) = V c main_v2_1 (ix2 b u) := by
  have hi : ∀ t : Fin cfg1.N, win1_1.index t (0 : Fin 2) = 0 ∧ win1_1.index t (1 : Fin 2) = 0 := (by decide +kernel : ∀ t : Fin grid1.N, _)
  obtain ⟨e0, e1⟩ := hi t
  refine congrArg (V c main_v2_1) (funext fun a => Fin.ext ?_)
  match a with
  | ⟨0, _⟩ => show win1_1.index t (0 : Fin 2) * 32 + 1 * b.val = b.val; omega
  | ⟨1, _⟩ => show win1_1.index t (1 : Fin 2) * 128 + 1 * u.val = u.val; omega

end

end Cert.KernelIdeal.Own
-- ==== Proof.KernelIdealRun.lean ====
/- The whole program's run: the host stretches and the two regions in order. -/
module

public import proofs.«01_k».proof.Proof.KernelIdealFirstFrame
public import proofs.«01_k».proof.Proof.KernelIdealSecond

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered  (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered . -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine .trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution terminates, nothing faulting; every final state
    has the argument arrays as launched, every unscoped buffer at the last boundary's contents `W4`, and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       h c⟩), funext fun g => hz g (.inr (no_unscoped g.2))⟩)

/-- The argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1, (h.1 c).2.1, (h.1 c).2.2.1⟩, h.2⟩) (run m ρ)

end Cert.KernelIdeal.Own

end
-- ==== Proof.KernelIdealOut.lean ====
/- What the kernel leaves in its output array, from the arguments: the specification's output. -/
module

public import proofs.«01_k».proof.Proof.KernelIdealMax
public import proofs.«01_k».proof.Proof.KernelIdealSpikes
public import proofs.«01_k».proof.Proof.KernelIdealRun
public import Idealize.ShloMosaic.Lib.StableHlo.ReadAt

@[expose] public section

set_option maxRecDepth 16384

noncomputable section

namespace Cert.KernelIdeal.Own

open Cert.KernelIdeal.Gen
open Idealize.ShloMosaic Idealize.ShloMosaic.TcCoe
open Cert.Spec (FirstMax spk)

section
variable (V : (c : Dev nD) → (b : Ref sig .tc) → Buf (Elt Ideal) ((c : Thread nD τ).loc b)) (c : Dev nD)

/-- An index is in a point's block when each coordinate is in the block's range. -/
theorem mem_blk1_2 (t : Fin cfg1.N) (i : S32x2048x81.Idx) :
    i ∈ ((cfg1.win 2).blk t).view.set ↔ ∀ a : Fin 3, win1_2.index t a * S32x256x81.size a ≤ (i a).val ∧ (i a).val < win1_2.index t a * S32x256x81.size a + S32x256x81.size a := by
  show i ∈ ((View.whole main_v3).slice (win1_2.rect t)).set ↔ _
  rw [View.set_slice_whole, Rect.mem_set_unit]
  exact Iff.rfl

open Classical in
/-- The second region's array, from winners given by their numbers. -/
def spikes (m : Vec Ideal S32x128 .f32) (a : Fin 32 → Fin 81 → ℕ) : Vec Ideal S32x2048x81 .f32 := fun i =>
  if spk (above m ⟨(i 0).val, (i 0).isLt⟩) (i 2).val ∧ (i 1).val = a ⟨(i 0).val, (i 0).isLt⟩ ⟨(i 2).val, (i 2).isLt⟩ then (1 : EReal) else 0

theorem out1_2_at (i : grid1.Coords) (x0 : Vec Ideal S32x128 .f32) (x1 : Vec Ideal S32x128 .i32) (b : Fin 32) (q : Fin 256) (t : Fin 81) :
    out1_2 i x0 x1 (ix3 b q t) = k1_pay1 i x0 x1 (ix3 b q t) := by
  have e0 : View.ld x0 r1_0 = x0 := View.ld_unit_zero (funext fun a => by match a with | ⟨0, _⟩ => rfl | ⟨1, _⟩ => rfl) _ x0
  have e1 : View.ld x1 r1_0 = x1 := View.ld_unit_zero (funext fun a => by match a with | ⟨0, _⟩ => rfl | ⟨1, _⟩ => rfl) _ x1
  unfold out1_2
  rw [e0, e1]
  refine (canon_box3 (e := .f32) inb_S32x256x81_S32x256x81_0_0_0 (k1_pay1 i x0 x1) _ b q t).trans ?_
  rw [dif_pos (by have := b.isLt; have := q.isLt; have := t.isLt; omega)]
  rfl

theorem final_spikes (a : Fin 32 → Fin 81 → ℕ) (ha : ∀ b t, a b t < 2048)
    (h : ∀ b t, V c main_v2_1 (ix2 b ⟨15 + t.val, by omega⟩) = BitVec.ofNat 32 (a b t)) :
    (dat1 V c).arrAt 2 cfg1.N = spikes (V c main_v2_0) a := by
  have hi : ∀ t : Fin cfg1.N, win1_2.index t (0 : Fin 3) = 0 ∧ win1_2.index t (1 : Fin 3) = t.val ∧ win1_2.index t (2 : Fin 3) = 0 :=
    (by decide +kernel : ∀ t : Fin grid1.N, _)
  have hN : cfg1.N = 8 := N_1
  refine (dat1 V c).arrAt_eq_of_cover 2 _ (fun t hf => ?_) (fun i => ?_)
  · have ht : t.val < 8 := lt_of_lt_of_eq t.isLt hN
    obtain ⟨e0, e1, e2⟩ := hi t
    show (cfg1.win 2).cut (grid1.coords t) ((dat1 V c).after 2 t) = _
    rw [after1_2]
    have hp : ∀ y : S32x256x81.Idx, out1_2 (grid1.coords t) (iblk1 V c 0 t) (iblk1 V c 1 t) y
        = spikes (V c main_v2_0) a (((cfg1.win 2).blk t).view.emb y) := by
      intro y
      obtain ⟨b, q, τ, rfl⟩ : ∃ b q τ, y = ix3 b q τ := ⟨y 0, y 1, y 2, (ix3_eta y).symm⟩
      have x0 : (iblk1 V c 0 t : Vec Ideal S32x128 .f32) = V c main_v2_0 := funext fun j => by
        obtain ⟨b, u, rfl⟩ : ∃ b u, j = ix2 b u := ⟨j 0, j 1, (ix2_eta j).symm⟩
        exact iblk1_0_at V c t b u
      have x1 : (iblk1 V c 1 t : Vec Ideal S32x128 .i32) = V c main_v2_1 := funext fun j => by
        obtain ⟨b, u, rfl⟩ : ∃ b u, j = ix2 b u := ⟨j 0, j 1, (ix2_eta j).symm⟩
        exact iblk1_1_at V c t b u
      rw [out1_2_at, x0, x1]
      rw [k1_at (grid1.coords t) (V c main_v2_0) (V c main_v2_1) b q τ (a b τ) (ha b τ) (h b τ) (by rw [coords1]; exact ht), coords1]
      have f0 : ((cfg1.win 2).blk t).view.emb (ix3 b q τ) = (ix3 b ⟨256 * t.val + q.val, by omega⟩ τ : S32x2048x81.Idx) := by
        funext a
        apply Fin.ext
        match a with
        | ⟨0, _⟩ => show win1_2.index t (0 : Fin 3) * 32 + 1 * b.val = b.val; omega
        | ⟨1, _⟩ => show win1_2.index t (1 : Fin 3) * 256 + 1 * q.val = 256 * t.val + q.val; omega
        | ⟨2, _⟩ => show win1_2.index t (2 : Fin 3) * 81 + 1 * τ.val = τ.val; omega
      rw [f0]
      rfl
    funext y
    exact hp y
  · have h0 : (i 0).val < 32 := (i 0).isLt
    have h1 : (i 1).val < 2048 := (i 1).isLt
    have h2 : (i 2).val < 81 := (i 2).isLt
    refine ⟨⟨(i 1).val / 256, by omega⟩, flush1_2 _, (mem_blk1_2 _ i).mpr fun a => ?_⟩
    obtain ⟨e0, e1, e2⟩ := hi ⟨(i 1).val / 256, by omega⟩
    match a with
    | ⟨0, _⟩ => show win1_2.index _ (0 : Fin 3) * 32 ≤ (i 0).val ∧ (i 0).val < win1_2.index _ (0 : Fin 3) * 32 + 32; omega
    | ⟨1, _⟩ => show win1_2.index _ (1 : Fin 3) * 256 ≤ (i 1).val ∧ (i 1).val < win1_2.index _ (1 : Fin 3) * 256 + 256; rw [e1]; dsimp only; omega
    | ⟨2, _⟩ => show win1_2.index _ (2 : Fin 3) * 81 ≤ (i 2).val ∧ (i 2).val < win1_2.index _ (2 : Fin 3) * 81 + 81; omega

end

section
variable (m : (ℓ : Loc nD τ sig) → Buf (Elt Ideal) ℓ) (ρ : Dev nD → PrngReg) (c : Dev nD)

/-- The arguments, by their coordinates. -/
abbrev argX : Fin 32 → Fin 128 → Fin 64 → EReal := fun b s u => m ((c : Thread nD τ).loc main_arg0) (ix4 b 0 s u)
/-- The weights, by neuron and synapse. -/
abbrev argW : Fin 2048 → Fin 128 → EReal := fun n s => m ((c : Thread nD τ).loc main_arg1) (ix2 n s)
/-- The labels, by batch. -/
abbrev argL : Fin 32 → BitVec 32 := fun b => m ((c : Thread nD τ).loc main_arg2) (ix1 b)

/-- The first call reads the argument input. -/
theorem inX_eq : inX (V1 m ρ) c = argX m c := by
  funext b s u
  show StableHlo.after hostOps0 (W0 m ρ c) (Proc.devRef .tc main_v0) (ix3 b s u) = m ((c : Thread nD τ).loc main_arg0) (ix4 b 0 s u)
  after_reads_at

/-- The first call reads the argument weights. -/
theorem inW_eq : inW (V1 m ρ) c = argW m c := by
  funext n s
  exact congrFun (W1_args m ρ c main_arg1 (by decide +kernel)) (ix2 n s)

/-- The first call reads the argument labels. -/
theorem inL_eq : inL (V1 m ρ) c = argL m c := by
  funext b
  show StableHlo.after hostOps0 (W0 m ρ c) (Proc.devRef .tc main_v1) (ix2 b 0) = m ((c : Thread nD τ).loc main_arg2) (ix1 b)
  after_reads_at

open Classical in
/-- The kernel's output at every index. -/
theorem out_at (b : Fin 32) (n : Fin 2048) (t : Fin 81) :
    W4 m ρ c (Proc.devRef .tc main_v4) (ix4 b 0 n t) = Cert.Spec.answer (argX m c) (argW m c) (argL m c) b n.val t.val := by
  have hmax := final_max (V1 m ρ) c
  rw [inX_eq, inW_eq, inL_eq] at hmax
  choose a ha using hmax
  have em : ∀ b τ, V2 m ρ c main_v2_0 (ix2 b τ) = (dat0 (V1 m ρ) c).arrAt 3 cfg0.N (ix2 b τ) := fun b τ =>
    congrFun (W2_arr m ρ c 3) (ix2 b τ)
  have ep : ∀ b τ, V2 m ρ c main_v2_1 (ix2 b τ) = (dat0 (V1 m ρ) c).arrAt 4 cfg0.N (ix2 b τ) := fun b τ =>
    congrFun (W2_arr m ρ c 4) (ix2 b τ)
  have hm : ∀ b (t : ℕ) (ht : t < 81), FirstMax (Cert.Spec.potN (argX m c) (argW m c) (argL m c) b t) 2048
      (V2 m ρ c main_v2_0 (ix2 b ⟨15 + t, by omega⟩)) (a b ⟨15 + t, by omega⟩) := fun b t ht => by
    rw [em, ← Cert.Spec.row_eq _ _ _ b t ht, Nat.add_comm t 15]
    exact (ha b ⟨15 + t, by omega⟩).1
  have hl : ∀ b, above (V2 m ρ c main_v2_0) b = Cert.Spec.loud (argX m c) (argW m c) (argL m c) b := fun b => by
    funext u
    apply propext
    constructor
    · rintro ⟨h, h'⟩
      exact ⟨h, _, _, hm b u h, h'⟩
    · rintro ⟨h, m', a', h1, h2⟩
      refine ⟨h, ?_⟩
      rw [(hm b u h).unique h1 |>.1]
      exact h2
  have hs := final_spikes (V2 m ρ) c (fun b t => a b ⟨15 + t.val, by omega⟩) (fun b t => (ha b _).1.1)
    (fun b t => by rw [ep]; exact (ha b _).2)
  have h3 : W3 m ρ c (Proc.devRef .tc main_v3) (ix3 b n t) = spikes (V2 m ρ c main_v2_0) (fun b t => a b ⟨15 + t.val, by omega⟩) (ix3 b n t) :=
    (congrFun (W3_arr m ρ c 2) (ix3 b n t)).trans (congrFun hs (ix3 b n t))
  have h4 : W4 m ρ c (Proc.devRef .tc main_v4) (ix4 b 0 n t) = W3 m ρ c (Proc.devRef .tc main_v3) (ix3 b n t) := by
    show StableHlo.after hostOps2 (W3 m ρ c) (Proc.devRef .tc main_v4) (ix4 b 0 n t) = _
    generalize W3 m ρ c = X
    after_reads_at
  rw [h4, h3]
  show (if spk (above (V2 m ρ c main_v2_0) b) t.val ∧ n.val = a b ⟨15 + t.val, by have := t.isLt; omega⟩ then (1 : EReal) else 0) = _
  unfold Cert.Spec.answer
  rw [hl]
  refine if_congr (and_congr Iff.rfl ?_) rfl rfl
  exact ⟨fun h => ⟨_, h ▸ hm b t.val t.isLt⟩, fun ⟨m', h⟩ => (h.unique (hm b t.val t.isLt)).2⟩

end

end Cert.KernelIdeal.Own
-- ==== Proof.ReferenceOps.lean ====
/- The reference's scatters, gather and reductions, read at an index. -/
module

public import proofs.«01_k».proof.Proof.Gen.ReferenceIdeal.Run
public import proofs.«01_k».proof.Proof.Spec
public import Idealize.ShloMosaic.Lib.Pointwise
public import Idealize.ShloMosaic.Lib.StableHlo.ReadAt
public import Idealize.ShloMosaic.Lib.Routing.OpsPair
public import Idealize.ShloMosaic.Lib.Routing.OpsSet
public import Idealize.ShloMosaic.Lib.WordCmp

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo Idealize.SL.Sem

open Idealize.ShloMosaic.Routing (scatter_at resultIdx?_ix2)
open Cert.Spec (FirstMax)

/-- Update `e` lands at the sample and the neuron its two index words name. -/
theorem pair_lands (idx : IVec S32x2 32) (e b : Fin 32) (n : Fin 2048) :
    scatter_S32x2048_S32x2_S32_n_01_01_1.resultIdx? (ix1 e) idx = some (ix2 b n)
      ↔ (idx (ix2 e 0)).toInt = (b.val : ℤ) ∧ (idx (ix2 e 1)).toInt = (n.val : ℤ) := by
  refine (resultIdx?_ix2 _ _ _ _ _).trans ?_
  have w : ∀ a : Fin 2, scatter_S32x2048_S32x2_S32_n_01_01_1.window (ix1 e) a = 0 := fun a => by
    unfold ScatterDims.window
    rw [dif_neg fun h => (of_decide_eq_true (List.mem_filter.1 h).2) (by match a with | ⟨0, _⟩ => exact List.mem_cons_self | ⟨1, _⟩ => exact List.mem_cons_of_mem _ List.mem_cons_self)]
  have s0 : scatter_S32x2048_S32x2_S32_n_01_01_1.start (ix1 e) idx 0 = (idx (ix2 e 0)).toInt := by
    unfold ScatterDims.start
    refine (dif_pos (show (0 : Fin 2) ∈ ([0, 1] : List (Fin 2)) from by decide)).trans ?_
    refine congrArg (fun j => (idx j).toInt) (funext fun b' => Fin.ext ?_)
    match b' with
    | ⟨0, _⟩ => rfl
    | ⟨1, _⟩ => rfl
  have s1 : scatter_S32x2048_S32x2_S32_n_01_01_1.start (ix1 e) idx 1 = (idx (ix2 e 1)).toInt := by
    unfold ScatterDims.start
    refine (dif_pos (show (1 : Fin 2) ∈ ([0, 1] : List (Fin 2)) from by decide)).trans ?_
    refine congrArg (fun j => (idx j).toInt) (funext fun b' => Fin.ext ?_)
    match b' with
    | ⟨0, _⟩ => rfl
    | ⟨1, _⟩ => rfl
  rw [w, w, s0, s1]
  norm_num

open Classical in
/-- A fold that acts at one position of the list only. -/
theorem foldl_once {α ι : Type} (g : α → ι → α) (n0 : ι) (P : Prop) (hit : ι → Prop) {inst : DecidablePred hit} (hh : ∀ n, hit n ↔ n = n0 ∧ P) :
    ∀ (l : List ι), l.Nodup → ∀ x : α, l.foldl (fun a n => if hit n then g a n else a) x = if n0 ∈ l ∧ P then g x n0 else x := by
  intro l
  induction l with
  | nil => intro _ x; simp
  | cons n l ih =>
    intro hd x
    obtain ⟨hn, hd⟩ := List.nodup_cons.mp hd
    rw [List.foldl_cons, ih hd]
    by_cases hp : P
    · by_cases e : n = n0
      · subst e
        simp [hn, hp, hh]
      · have e' : n0 ≠ n := fun h => e h.symm
        simp [e, e', hp, hh]
    · simp [hp, hh]

/-- A scatter of one update per sample, to the neuron its word names. -/
theorem scatter_one {α : Type} (f : α → α → α) (x0 : S32x2048.Idx → α) (idx : IVec S32x2 32) (upd : S32.Idx → α)
    (h0 : ∀ e : Fin 32, (idx (ix2 e 0)).toInt = (e.val : ℤ)) (b : Fin 32) (n : Fin 2048) :
    Host.scatter scatter_S32x2048_S32x2_S32_n_01_01_1 f x0 idx upd (ix2 b n)
      = if (idx (ix2 b 1)).toInt = (n.val : ℤ) then f (x0 (ix2 b n)) (upd (ix1 b)) else x0 (ix2 b n) := by
  rw [scatter_at]
  have e1 : ∀ k : S32.Idx, k = ix1 (k 0) := fun k => (ix1_eta k).symm
  have hh : ∀ p : Fin S32.numel, scatter_S32x2048_S32x2_S32_n_01_01_1.resultIdx? (S32.rowMajor.symm p) idx = some (ix2 b n)
      ↔ p = S32.rowMajor (ix1 b) ∧ (idx (ix2 b 1)).toInt = (n.val : ℤ) := fun p => by
    obtain ⟨k, rfl⟩ := S32.rowMajor.surjective p
    rw [Equiv.symm_apply_apply]
    obtain ⟨e, rfl⟩ : ∃ e : Fin 32, k = ix1 e := ⟨k 0, e1 k⟩
    rw [pair_lands, h0]
    constructor
    · rintro ⟨h, h'⟩
      obtain rfl : e = b := Fin.ext (by exact_mod_cast h)
      exact ⟨rfl, h'⟩
    · rintro ⟨h, h'⟩
      have := S32.rowMajor.injective h
      obtain rfl : e = b := congrFun this 0
      exact ⟨rfl, h'⟩
  refine (foldl_once (fun a p => f a (upd (S32.rowMajor.symm p))) (S32.rowMajor (ix1 b)) ((idx (ix2 b 1)).toInt = (n.val : ℤ)) _ hh
    (List.finRange S32.numel) (List.nodup_finRange _) (x0 (ix2 b n))).trans ?_
  simp only [List.mem_finRange, true_and, Equiv.symm_apply_apply]

/-- One element of every sample's row, the one its word names. -/
theorem gather_one {α : Type} (x : S32x2048.Idx → α) (idx : IVec S32x1x1 32) (b : Fin 32) (a : ℕ) (ha : a < 2048)
    (h : idx (ix3 b 0 0) = BitVec.ofNat 32 a) :
    Host.gather gather_S32x2048_S32x1x1_S32x1_n_1_0_0_1_2_11 x idx (ix2 b 0) = x (ix2 b ⟨a, ha⟩) := by
  unfold Host.gather
  refine congrArg x (funext fun ax => Fin.ext ?_)
  show gather_S32x2048_S32x1x1_S32x1_n_1_0_0_1_2_11.start (ix2 b 0) idx ax + gather_S32x2048_S32x1x1_S32x1_n_1_0_0_1_2_11.batchCoord (ix2 b 0) ax
    + gather_S32x2048_S32x1x1_S32x1_n_1_0_0_1_2_11.offCoord (ix2 b 0) ax = _
  match ax with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (show (0 : Fin 2) ∈ ([0] : List (Fin 2)) from List.mem_singleton.mpr rfl)).trans rfl
  | ⟨1, _⟩ =>
    rw [GatherDims.batchCoord_eq_zero _ _ _ (fun h => by simp [gather_S32x2048_S32x1x1_S32x1_n_1_0_0_1_2_11] at h),
      GatherDims.offCoord_eq_zero _ _ _ (fun h => ((GatherDims.mem_sKept _ _).mp h).1 (List.mem_singleton.mpr rfl))]
    simp only [Nat.add_zero]
    unfold GatherDims.start
    refine (dif_pos (show (1 : Fin 2) ∈ ([1] : List (Fin 2)) from List.mem_singleton.mpr rfl)).trans ?_
    have hsi : gather_S32x2048_S32x1x1_S32x1_n_1_0_0_1_2_11.siIdx (ix2 b 0) ⟨List.idxOf (1 : Fin 2) ([1] : List (Fin 2)),
        List.idxOf_lt_length_iff.2 (List.mem_singleton.mpr rfl)⟩ = ix3 b 0 0 := by
      funext b'; refine Fin.ext ?_
      match b' with
      | ⟨0, _⟩ => rfl
      | ⟨1, _⟩ => rfl
      | ⟨2, _⟩ => rfl
    refine (congrArg (fun j => min (idx j).toInt.toNat 2047) hsi).trans ?_
    rw [h]
    have : (BitVec.ofNat 32 a).toInt = (a : ℤ) := StableHlo.Predicate.toInt_ofNat_small _ (by omega)
    rw [this]
    show min a 2047 = a
    omega

/-- The row index words of a scatter: the sample and the given word. -/
def pairs (u : IVec S32 32) : IVec S32x2 32 :=
  concatenate S32x2 1 [⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩,
    ⟨S32x1, (broadcastInDim S32x1 ![0] bcast_S32_S32x1_0 (select (cmpi .slt u (broadcastInDim S32 ![] bcast_S_S32 (constantI S_ 32 0#32))) (addi u (broadcastInDim S32 ![] bcast_S_S32 (constantI S_ 32 2048#32))) u))⟩] concatenates_S32x1_S32x1_S32x2_d1

/-- A word below 2^31 is not negative, so the wrap of negative indices leaves it as it is. -/
theorem wrap_small (a y : ℕ) (ha : a < 2 ^ 31) : Scalar.select (IntOp.cmpi .slt (BitVec.ofNat 32 a) 0#32) (IntOp.addi (BitVec.ofNat 32 a) (BitVec.ofNat 32 y)) (BitVec.ofNat 32 a) = BitVec.ofNat 32 a :=
  Idealize.ShloMosaic.Routing.wrap_of_lt _ _ (by rw [BitVec.toNat_ofNat, Nat.mod_eq_of_lt (by omega)]; exact ha)

/-- The first coordinate of a pair is the batch number. -/
theorem pairs_at0 (u : IVec S32 32) (e : Fin 32) : (pairs u (ix2 e 0)).toInt = (e.val : ℤ) := by
  have : pairs u (ix2 e 0) = BitVec.ofNat 32 e.val := by
    unfold pairs
    pointwise
    exact wrap_small e.val 32 (by omega)
  rw [this]
  exact StableHlo.Predicate.toInt_ofNat_small _ (by omega)

/-- The second coordinate of a pair is the given index, where that is not negative. -/
theorem pairs_at1 (u : IVec S32 32) (e : Fin 32) (h : (u (ix1 e)).toNat < 2 ^ 31) : pairs u (ix2 e 1) = u (ix1 e) := by
  unfold pairs
  pointwise
  exact Idealize.ShloMosaic.Routing.wrap_of_lt _ _ h

/-- The largest element of a row, and the first position that has it. -/
theorem first_of_row (v : FVec Ideal S32x2048 .f32) (f : ℕ → EReal) (b : Fin 32) (hf : ∀ n : Fin 2048, v (ix2 b n) = f n.val) (M : EReal) (a : ℕ)
    (h : FirstMax f 2048 M a) :
    Host.reduce IntOp.minsi (select (cmpf .oeq v (broadcastInDim S32x2048 ![0, 1] bcast_S32x1_S32x2048_0_1 (broadcastInDim S32x1 ![0] bcast_S32_S32x1_0 (Host.reduce FloatOps.maximumf v (constant S_ .f32 0xFF800000#32) reducesTo_S32x2048_S32_d1 h_S_)))) (broadcastInDim S32x2048 ![1] bcast_S2048_S32x2048_1 (iotaInDim S2048 32 0)) (broadcastInDim S32x2048 ![] bcast_S_S32x2048 (id (constantI S_ 32 2048#32)))) (constantI S_ 32 2147483647#32) reducesTo_S32x2048_S32_d1 h_S_ (ix1 b)
      = BitVec.ofNat 32 a := by
  simp only [id_eq]
  pointwise
  obtain ⟨a', h'⟩ := Cert.Spec.firstMax_fold 2048 (by norm_num) f
  obtain ⟨hM, ha⟩ := h'.unique h
  have key := (@Cert.Spec.fold_first 2048 (fun n => f n = M) (fun _ => Classical.propDecidable _) 0 2048 (by norm_num) (by norm_num) (by norm_num)).1 a h.1 h.2.1
    (fun n hn e => absurd (h.2.2.2 n hn) (by rw [e]; exact lt_irrefl _))
  rw [Nat.zero_add] at key
  rw [← key]
  refine congrArg (fun g => Finset.fold IntOp.minsi 2147483647#32 g Finset.univ) (funext fun x => ?_)
  rw [Nat.zero_add]
  refine @if_congr _ _ _ _ (Classical.propDecidable _) _ _ _ _ (Eq.congr (hf x) ?_) rfl rfl
  rw [← hM]
  simp only [hf]
  refine congrArg (fun z => Finset.fold max z _ Finset.univ) ?_
  exact Cert.Spec.bot_bits

/-- The row words of a gather that reads one element of every sample's row. -/
def rows (u : IVec S32 32) : IVec S32x1x1 32 :=
  shapeCast S32x1x1 (select (cmpi .slt (broadcastInDim S32x1 ![0] bcast_S32_S32x1_0 u) (broadcastInDim S32x1 ![] bcast_S_S32x1 (constantI S_ 32 0#32))) (addi (broadcastInDim S32x1 ![0] bcast_S32_S32x1_0 u) (broadcastInDim S32x1 ![] bcast_S_S32x1 (constantI S_ 32 2048#32))) (broadcastInDim S32x1 ![0] bcast_S32_S32x1_0 u)) shapeCasts_S32x1_S32x1x1

/-- The index that the gather reads is the given one, where that is not negative. -/
theorem rows_at (u : IVec S32 32) (b : Fin 32) (h : (u (ix1 b)).toNat < 2 ^ 31) : rows u (ix3 b 0 0) = u (ix1 b) := by
  unfold rows
  pointwise
  exact Idealize.ShloMosaic.Routing.wrap_of_lt _ _ h

/-- A conjunction over an axis of length 1 is its only element. -/
theorem all_one (p : IVec S32x1x1 1) (b : Fin 32) : Host.reduce IntOp.andi p (constantI S_ 1 1#1) reducesTo_S32x1x1_S32x1_d2 h_S_ (ix2 b 0) = p (ix3 b 0 0) := by
  pointwise
  rw [Finset.univ_unique, Finset.fold_singleton]
  exact BitVec.and_allOnes

/-- Whether every index word lies in its row. -/
def inside (y : IVec S32x1x1 32) : IVec S32x1x1 1 :=
  andi (cmpi .sge y (broadcastInDim S32x1x1 ![] bcast_S_S32x1x1 (constantI S_ 32 0#32))) (cmpi .sle y (broadcastInDim S32x1x1 ![0, 1, 2] bcast_S1x1x1_S32x1x1_0_1_2 (broadcastInDim S1x1x1 ![2] bcast_S1_S1x1x1_2 (constantI S1 32 2047#32))))

/-- An index below 2048 passes the range test. -/
theorem inside_at (y : IVec S32x1x1 32) (b : Fin 32) (a : ℕ) (ha : a < 2048) (h : y (ix3 b 0 0) = BitVec.ofNat 32 a) : inside y (ix3 b 0 0) = 1#1 := by
  unfold inside
  pointwise
  rw [h]
  have e : (BitVec.ofNat 32 a).toInt = (a : ℤ) := StableHlo.Predicate.toInt_ofNat_small _ (by omega)
  have e1 : IntOp.cmpi .sge (BitVec.ofNat 32 a) 0#32 = 1#1 := by
    show BitVec.ofBool (decide ((0#32 : BitVec 32).toInt ≤ (BitVec.ofNat 32 a).toInt)) = 1#1
    rw [e, decide_eq_true (show (0#32 : BitVec 32).toInt ≤ (a : ℤ) from by norm_num)]
    rfl
  have e2 : IntOp.cmpi .sle (BitVec.ofNat 32 a) 2047#32 = 1#1 := by
    show BitVec.ofBool (decide ((BitVec.ofNat 32 a).toInt ≤ (2047#32 : BitVec 32).toInt)) = 1#1
    rw [e, decide_eq_true (show (a : ℤ) ≤ (2047#32 : BitVec 32).toInt from by have : (2047#32 : BitVec 32).toInt = 2047 := by decide
                                                                              omega)]
    rfl
  rw [e1, e2]
  rfl

/-- Whether the winner's potential is above the threshold. -/
theorem loud_at (v : FVec Ideal S32x2048 .f32) (y : IVec S32x1x1 32) (b : Fin 32) (a : ℕ) (ha : a < 2048) (h : y (ix3 b 0 0) = BitVec.ofNat 32 a) :
    extui 32 (cmpf .ogt (select (Host.reduce IntOp.andi (inside y) (constantI S_ 1 1#1) reducesTo_S32x1x1_S32x1_d2 h_S_) (Host.gather gather_S32x2048_S32x1x1_S32x1_n_1_0_0_1_2_11 v y) (broadcastInDim S32x1 ![] bcast_S_S32x1 (constant S_ .f32 0x7FC00000#32))) (broadcastInDim S32x1 ![] bcast_S_S32x1 (constant S_ .f32 0x414CCCCD#32))) natLt_1_32 (ix2 b 0)
      = if Cert.Spec.theta < v (ix2 b ⟨a, ha⟩) then 1#32 else 0#32 := by
  have e1 := all_one (inside y) b
  rw [inside_at y b a ha h] at e1
  have e2 := gather_one v y b a ha h
  generalize Host.reduce IntOp.andi (inside y) (constantI S_ 1 1#1) reducesTo_S32x1x1_S32x1_d2 h_S_ = p at *
  generalize Host.gather gather_S32x2048_S32x1x1_S32x1_n_1_0_0_1_2_11 v y = g at *
  generalize hq : v (ix2 b ⟨a, ha⟩) = q at *
  pointwise
  rw [e1, e2]
  have e3 : Scalar.select 1#1 q (Ideal.ofBits FTy.f32 2143289344#32) = q := rfl
  rw [e3]
  by_cases hc : Cert.Spec.theta < q
  · rw [if_pos hc]
    exact congrArg (fun b => BitVec.setWidth 32 (BitVec.ofBool b)) (decide_eq_true hc)
  · rw [if_neg hc]
    exact congrArg (fun b => BitVec.setWidth 32 (BitVec.ofBool b)) (decide_eq_false hc)

/-- The words `s`, each at the neuron its row names, zeros elsewhere. -/
theorem fired_at (u : IVec S32 32) (s : IVec S32x1 32) (b : Fin 32) (n : Fin 2048) (a : ℕ) (ha : a < 2048) (h : u (ix1 b) = BitVec.ofNat 32 a) :
    Host.scatter scatter_S32x2048_S32x2_S32_n_01_01_1 (fun _ b => b) (broadcastInDim S32x2048 ![] bcast_S_S32x2048 (constantI S_ 32 0#32)) (pairs u) (shapeCast S32 s shapeCasts_S32x1_S32) (ix2 b n)
      = if a = n.val then s (ix2 b 0) else 0#32 := by
  have e : (BitVec.ofNat 32 a).toInt = (a : ℤ) := StableHlo.Predicate.toInt_ofNat_small _ (by omega)
  refine (scatter_one _ _ _ _ (pairs_at0 u) b n).trans ?_
  rw [pairs_at1 u b (by rw [h, BitVec.toNat_ofNat]; omega), h, e]
  refine if_congr (by omega) ?_ rfl
  pointwise

/-- A counter that goes down by one and is clipped to 0 to 47 is its predecessor, or stays at 0. -/
theorem calm : ∀ d : Fin 48, IntOp.minsi 47#32 (IntOp.maxsi 0#32 (IntOp.subi (BitVec.ofNat 32 d.val) 1#32)) = BitVec.ofNat 32 (d.val - 1) := by
  decide +kernel

open Classical in
/-- The depression counts after a step: forty-seven after a spike, one less otherwise. -/
theorem decay_at (D r : IVec S32x2048 32) (u : IVec S32 32) (s : IVec S32x1 32) (b : Fin 32) (n : Fin 2048) (a d : ℕ) (P : Prop) (ha : a < 2048)
    (h : u (ix1 b) = BitVec.ofNat 32 a) (hD : D (ix2 b n) = BitVec.ofNat 32 d) (hd : d ≤ 47) (hP : P → d = 0)
    (hs : s (ix2 b 0) = if P then 1#32 else 0#32) (hr : r (ix2 b n) = if a = n.val then s (ix2 b 0) else 0#32) :
    id (minsi (broadcastInDim S32x2048 ![] bcast_S_S32x2048 (id (constantI S_ 32 47#32))) (maxsi (broadcastInDim S32x2048 ![] bcast_S_S32x2048 (id (constantI S_ 32 0#32))) (subi (addi (addi (Host.scatter scatter_S32x2048_S32x2_S32_n_01_01_1 IntOp.addi D (pairs u) (muli (negi (shapeCast S32 s shapeCasts_S32x1_S32)) (broadcastInDim S32 ![] bcast_S_S32 (constantI S_ 32 48#32)))) (broadcastInDim S32x2048 ![0, 1] bcast_S32x1_S32x2048_0_1 (muli s (broadcastInDim S32x1 ![] bcast_S_S32x1 (constantI S_ 32 48#32))))) (muli r (broadcastInDim S32x2048 ![] bcast_S_S32x2048 (constantI S_ 32 48#32)))) (broadcastInDim S32x2048 ![] bcast_S_S32x2048 (constantI S_ 32 1#32))))) (ix2 b n)
      = BitVec.ofNat 32 (if P then 47 else d - 1) := by
  have e : (BitVec.ofNat 32 a).toInt = (a : ℤ) := StableHlo.Predicate.toInt_ofNat_small _ (by omega)
  have hsc := scatter_one IntOp.addi D (pairs u) (muli (negi (shapeCast S32 s shapeCasts_S32x1_S32)) (broadcastInDim S32 ![] bcast_S_S32 (constantI S_ 32 48#32))) (pairs_at0 u) b n
  rw [pairs_at1 u b (by rw [h, BitVec.toNat_ofNat]; omega), h, e, hD] at hsc
  have hm : (muli (negi (shapeCast S32 s shapeCasts_S32x1_S32)) (broadcastInDim S32 ![] bcast_S_S32 (constantI S_ 32 48#32))) (ix1 b) = IntOp.muli (-s (ix2 b 0)) 48#32 := by
    pointwise
  rw [hm] at hsc
  generalize Host.scatter scatter_S32x2048_S32x2_S32_n_01_01_1 IntOp.addi D (pairs u) (muli (negi (shapeCast S32 s shapeCasts_S32x1_S32)) (broadcastInDim S32 ![] bcast_S_S32 (constantI S_ 32 48#32))) = g at *
  simp only [id_eq]
  pointwise
  rw [hsc, hr, hs]
  by_cases p : P
  · simp only [if_pos p, hP p]
    by_cases q : a = n.val
    · rw [if_pos (by exact_mod_cast q), if_pos q]; decide
    · rw [if_neg (by exact_mod_cast q), if_neg q]; decide
  · simp only [if_neg p]
    have key := calm ⟨d, by omega⟩
    have z : IntOp.addi (BitVec.ofNat 32 d) (IntOp.muli (-0#32) 48#32) = BitVec.ofNat 32 d := by
      show BitVec.ofNat 32 d + (-0#32) * 48#32 = _
      rw [show (-0#32 : BitVec 32) * 48#32 = 0#32 from by decide, BitVec.add_zero]
    have z' : IntOp.addi (BitVec.ofNat 32 d) (IntOp.muli 0#32 48#32) = BitVec.ofNat 32 d := by
      show BitVec.ofNat 32 d + 0#32 * 48#32 = _
      rw [show (0#32 : BitVec 32) * 48#32 = 0#32 from by decide, BitVec.add_zero]
    by_cases q : a = n.val
    · rw [if_pos (by exact_mod_cast q), if_pos q, z, z', z']; exact key
    · rw [if_neg (by exact_mod_cast q), if_neg q, z', z']; exact key

/-- One element of a row, at the position a word names. -/
theorem pick_at {α : Type} (y : S81.Idx → α) (st : Fin S81.rank → ℤ) (t : ℕ) (ht : t < 81) (h0 : st 0 = (t : ℤ)) (j : S_.Idx) :
    shapeCast S_ (Host.dynamicSlice S1 y st sliceFits_S81_S1) shapeCasts_S1_S_ j = y (ix1 ⟨t, ht⟩) := by
  pointwise
  have e0 : Host.clampedStart S81 S1 rfl st 0 = t := Host.clampedStart_of_le _ _ _ t h0 (by show t + 1 ≤ 81; omega)
  exact congrArg (fun z => y (ix1 z)) (Fin.ext e0)

/-- The summed responses and the labels' share, over a window of the wave that starts at a word. -/
theorem window_at (W : FVec Ideal S32x128x128 .f32) (T : FVec Ideal S2048x128x48 .f32) (L D : IVec S32x2048 32) (st : Fin S32x128x128.rank → ℤ) (t : ℕ) (ht : t < 81)
    (h0 : st 0 = 0) (h1 : st 1 = 0) (h2 : st 2 = (t : ℤ)) (b : Fin 32) (n : Fin 2048) :
    mulf (addf (Host.dotGeneral dot_S32x128x48_S2048x128x48_S32x2048_21_21_0_0_n_n none (Host.dynamicSlice S32x128x48 W st sliceFits_S32x128x128_S32x128x48) T) (sitofp .f32 L)) (uitofp .f32 (cmpi .eq D (broadcastInDim S32x2048 ![] bcast_S_S32x2048 (constantI S_ 32 0#32)))) (ix2 b n)
      = ((∑ s : Fin 128, ∑ k : Fin 48, W (ix3 b s ⟨t + k.val, by omega⟩) * T (ix3 n s k)) + FloatOps.sitofp (F := Ideal) .f32 (L (ix2 b n)))
        * FloatOps.uitofp (F := Ideal) .f32 (IntOp.cmpi .eq (D (ix2 b n)) 0#32) := by
  pointwise
  have e0 : Host.clampedStart S32x128x128 S32x128x48 rfl st 0 = 0 := Host.clampedStart_of_le _ _ _ 0 h0 (by show 0 + 32 ≤ 32; omega)
  have e1 : Host.clampedStart S32x128x128 S32x128x48 rfl st 1 = 0 := Host.clampedStart_of_le _ _ _ 0 h1 (by show 0 + 128 ≤ 128; omega)
  have e2 : Host.clampedStart S32x128x128 S32x128x48 rfl st 2 = t := Host.clampedStart_of_le _ _ _ t h2 (by show t + 48 ≤ 128; omega)
  refine congrArg (fun z => (z + _) * _) ?_
  rw [Finset.sum_comm]
  refine Finset.sum_congr rfl fun s _ => Finset.sum_congr rfl fun k _ => congrArg (fun z => z * T (ix3 n s k)) ?_
  have i0 : Host.clampedStart S32x128x128 S32x128x48 rfl st 0 + b.val = b.val := by omega
  have i1 : Host.clampedStart S32x128x128 S32x128x48 rfl st 1 + s.val = s.val := by omega
  have i2 : Host.clampedStart S32x128x128 S32x128x48 rfl st 2 + k.val = t + k.val := by omega
  refine congrArg W (funext fun a => Fin.ext ?_)
  match a with
  | ⟨0, _⟩ => exact i0
  | ⟨1, _⟩ => exact i1
  | ⟨2, _⟩ => exact i2

/-- One plane of a stack replaced. -/
theorem plane_at {α : Type} (y : S81x32x2048.Idx → α) (v : S32x2048.Idx → α) (st : Fin S81x32x2048.rank → ℤ) (t : ℕ) (ht : t < 81)
    (h0 : st 0 = (t : ℤ)) (h1 : st 1 = 0) (h2 : st 2 = 0) (t' : Fin 81) (b : Fin 32) (n : Fin 2048) :
    Host.dynamicUpdateSlice y (broadcastInDim S1x32x2048 ![1, 2] bcast_S32x2048_S1x32x2048_1_2 v) st updateFits_S81x32x2048_S1x32x2048 (ix3 t' b n)
      = if t'.val = t then v (ix2 b n) else y (ix3 t' b n) := by
  have hb := b.isLt
  have hn := n.isLt
  pointwise
  have e0 : Host.clampedStart S81x32x2048 S1x32x2048 rfl st 0 = t := Host.clampedStart_of_le _ _ _ t h0 (by show t + 1 ≤ 81; omega)
  have e1 : Host.clampedStart S81x32x2048 S1x32x2048 rfl st 1 = 0 := Host.clampedStart_of_le _ _ _ 0 h1 (by show 0 + 32 ≤ 32; omega)
  have e2 : Host.clampedStart S81x32x2048 S1x32x2048 rfl st 2 = 0 := Host.clampedStart_of_le _ _ _ 0 h2 (by show 0 + 2048 ≤ 2048; omega)
  by_cases c : t'.val = t
  · rw [if_pos c]
    refine (dif_pos ?_).trans ?_
    · exact ⟨⟨by omega, by omega⟩, ⟨by omega, by omega⟩, by omega, by omega⟩
    refine congrArg v (congrArg₂ ix2 (Fin.ext ?_) (Fin.ext ?_))
    · show b.val - Host.clampedStart S81x32x2048 S1x32x2048 rfl st 1 = b.val; omega
    · show n.val - Host.clampedStart S81x32x2048 S1x32x2048 rfl st 2 = n.val; omega
  · rw [if_neg c]
    refine dif_neg fun h => c ?_
    have l : Host.clampedStart S81x32x2048 S1x32x2048 rfl st 0 ≤ t'.val := h.1.1
    have r : t'.val < Host.clampedStart S81x32x2048 S1x32x2048 rfl st 0 + 1 := h.1.2
    omega

end Cert.ReferenceIdeal.Own
-- ==== Proof.ReferenceEntry.lean ====
/- What the reference's loop starts from, read at an index. -/
module

public import proofs.«01_k».proof.Proof.Gen.ReferenceIdeal.Run
public import proofs.«01_k».proof.Proof.Spec
public import Idealize.ShloMosaic.Lib.Pointwise
public import proofs.«01_k».proof.Proof.ReferenceOps
public import Idealize.ShloMosaic.Lib.StableHlo.ReadAt

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo Idealize.SL.Sem

variable (m : (ℓ : Loc nD τ sig) → Buf (Elt Ideal) ℓ) (c : Dev nD)

/-- The arguments, by their coordinates. -/
abbrev argX : Fin 32 → Fin 128 → Fin 64 → EReal := fun b s u => m ((c : Thread nD τ).loc main_arg0) (ix4 b 0 s u)
/-- The weights, by neuron and synapse. -/
abbrev argW : Fin 2048 → Fin 128 → EReal := fun n s => m ((c : Thread nD τ).loc main_arg1) (ix2 n s)
/-- The labels, by batch. -/
abbrev argL : Fin 32 → BitVec 32 := fun b => m ((c : Thread nD τ).loc main_arg2) (ix1 b)

/-- The arrays with which the scan starts. -/
abbrev E0 : Valuation τ sig (Elt Ideal) := entryContents preI m c

/-- The scan runs over the times 0 to 80. -/
theorem entry_0 (k : Fin 81) : E0 m c (Proc.devRef .tc main_v43_0) (ix1 k) = BitVec.ofNat 32 k.val := by
  unfold E0
  simp only [entryContents, preI, afterL_cons, afterL_nil]
  after_reads_at
  simp only [id_eq]
  pointwise

/-- The step counter starts at zero. -/
theorem entry_4 (k : S_.Idx) : E0 m c (Proc.devRef .tc main_v43_4) k = 0#32 := by
  unfold E0
  simp only [entryContents, preI, afterL_cons, afterL_nil]
  after_reads_at
  simp only [id_eq]
  pointwise

/-- The depression counters start at zero. -/
theorem entry_5 (b : Fin 32) (n : Fin 2048) : E0 m c (Proc.devRef .tc main_v43_5) (ix2 b n) = 0#32 := by
  unfold E0
  simp only [entryContents, preI, afterL_cons, afterL_nil]
  after_reads_at
  simp only [id_eq]
  pointwise

/-- The stacked results start at zero. -/
theorem entry_6 (t : Fin 81) (b : Fin 32) (n : Fin 2048) : E0 m c (Proc.devRef .tc main_v43_6) (ix3 t b n) = 0#32 := by
  unfold E0
  simp only [entryContents, preI, afterL_cons, afterL_nil]
  after_reads_at
  simp only [id_eq]
  pointwise

/-- The flipped taps, at a neuron, a synapse and a position. -/
theorem entry_2 (n : Fin 2048) (s : Fin 128) (k : Fin 48) : E0 m c (Proc.devRef .tc main_v43_2) (ix3 n s k) = Cert.Spec.tap (47 - (k.val : ℤ)) (argW m c n s) := by
  unfold E0
  simp only [entryContents, preI, afterL_cons, afterL_nil]
  after_reads_at
  simp only [id_eq]
  pointwise
  have e : (FloatOps.sitofp (F := Idealize.ShloMosaic.Ideal) FTy.f32 (BitVec.ofNat 32 k.rev.val) : EReal) = Cert.Spec.lag (47 - (k.val : ℤ)) := by
    show (((BitVec.ofNat 32 k.rev.val).toInt : ℝ) : EReal) = ((((47 - (k.val : ℤ) : ℤ)) : ℝ) : EReal)
    rw [StableHlo.Predicate.toInt_ofNat_small _ (by have := k.rev.isLt; omega)]
    rw [Fin.val_rev, show ((48 - (k.val + 1) : ℕ) : ℤ) = 47 - (k.val : ℤ) from by omega]
  have key : max 0 (min (Ideal.div (FloatOps.sitofp (F := Idealize.ShloMosaic.Ideal) FTy.f32 (BitVec.ofNat 32 k.rev.val)) (Ideal.ofBits FTy.f32 1098907648#32))
      (Ideal.div (-((FloatOps.sitofp (F := Idealize.ShloMosaic.Ideal) FTy.f32 (BitVec.ofNat 32 k.rev.val) : EReal) - argW m c n s * Ideal.ofBits FTy.f32 1098907648#32)) (Ideal.ofBits FTy.f32 1107296256#32) + argW m c n s))
      = Cert.Spec.tap (47 - (k.val : ℤ)) (argW m c n s) := by
    rw [e]
    unfold Cert.Spec.tap
    rw [zero_sub]
    rfl
  exact key

/-- The padded input. -/
theorem entry_1 (b : Fin 32) (s : Fin 128) (u : Fin 128) : E0 m c (Proc.devRef .tc main_v43_1) (ix3 b s u) = Cert.Spec.xpad (argX m c) b s u.val := by
  unfold E0
  simp only [entryContents, preI, afterL_cons, afterL_nil]
  after_reads_at
  simp only [id_eq]
  pointwise
  unfold Cert.Spec.xpad
  by_cases h : 32 ≤ u.val ∧ u.val < 96
  · rw [dif_pos h]
    exact dif_pos (show 32 ≤ u.val ∧ u.val - 32 < 64 from by omega)
  · rw [dif_neg h]
    refine (dif_neg (show ¬(32 ≤ u.val ∧ u.val - 32 < 64) from by omega)).trans ?_
    show (((0#32 : BitVec 32).toInt : ℝ) : EReal) = 0
    norm_num

/-- The supervision: six at the labelled neuron and zero elsewhere. -/
theorem entry_3 (b : Fin 32) (n : Fin 2048) (h : ∀ b, (argL m c b).toNat < 2 ^ 31) : E0 m c (Proc.devRef .tc main_v43_3) (ix2 b n) = if argL m c b = BitVec.ofNat 32 n.val then 6#32 else 0#32 := by
  unfold E0
  simp only [entryContents, preI, afterL_cons, afterL_nil]
  after_reads_simp
  clean_types
  simp only [id_eq]
  refine (scatter_one _ _ _ _ ?_ b n).trans ?_
  · intro e
    pointwise
    after_reads_at
    pointwise
    rw [wrap_small e.val 32 (by omega)]
    exact StableHlo.Predicate.toInt_ofNat_small _ (by omega)
  · pointwise
    after_reads_at
    pointwise
    have hb : (argL m c b).toNat < 2 ^ 31 := h b
    refine if_congr ?_ rfl rfl
    have e : Scalar.select (IntOp.cmpi .slt (argL m c b) 0#32) (IntOp.addi (argL m c b) 2048#32) (argL m c b) = argL m c b :=
      Idealize.ShloMosaic.Routing.wrap_of_lt _ _ hb
    refine (Eq.congr (congrArg BitVec.toInt e) rfl).trans ?_
    have hi : (argL m c b).toInt = ((argL m c b).toNat : ℤ) := by
      rw [BitVec.toInt_eq_toNat_cond, if_pos (by omega)]
    rw [hi, ← BitVec.toNat_inj, BitVec.toNat_ofNat]
    have := n.isLt
    omega

end Cert.ReferenceIdeal.Own
-- ==== Proof.ReferenceStep.lean ====
/- One step of the reference's loop, read at an index. -/
module

public import proofs.«01_k».proof.Proof.Gen.ReferenceIdeal.Run
public import proofs.«01_k».proof.Proof.Spec
public import Idealize.ShloMosaic.Lib.Pointwise
public import Idealize.ShloMosaic.Lib.StableHlo.ReadAt
public import proofs.«01_k».proof.Proof.ReferenceOps
public import Idealize.ShloMosaic.Lib.WordCmp

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo Idealize.SL.Sem

open Cert.Spec (FirstMax potN loud spk dep conv boost)

/-- What the loop's buffers hold before step `t`. -/
structure Holds (x : Fin 32 → Fin 128 → Fin 64 → EReal) (w : Fin 2048 → Fin 128 → EReal) (lab : Fin 32 → BitVec 32) (t : ℕ)
    (V : Valuation τ sig (Elt Idealize.ShloMosaic.Ideal)) : Prop where
  steps : ∀ k : Fin 81, V (Proc.devRef .tc main_v43_0) (ix1 k) = BitVec.ofNat 32 k.val
  wave : ∀ (b : Fin 32) (s u : Fin 128), V (Proc.devRef .tc main_v43_1) (ix3 b s u) = Cert.Spec.xpad x b s u.val
  taps : ∀ (n : Fin 2048) (s : Fin 128) (k : Fin 48), V (Proc.devRef .tc main_v43_2) (ix3 n s k) = Cert.Spec.tap (47 - (k.val : ℤ)) (w n s)
  labels : ∀ (b : Fin 32) (n : Fin 2048), V (Proc.devRef .tc main_v43_3) (ix2 b n) = if lab b = BitVec.ofNat 32 n.val then 6#32 else 0#32
  count : V (Proc.devRef .tc main_v43_4) = fun _ => BitVec.ofNat 32 t
  depth : ∀ (b : Fin 32) (n : Fin 2048), V (Proc.devRef .tc main_v43_5) (ix2 b n) = BitVec.ofNat 32 (dep (loud x w lab b) t)

variable {x : Fin 32 → Fin 128 → Fin 64 → EReal} {w : Fin 2048 → Fin 128 → EReal} {lab : Fin 32 → BitVec 32} {t : ℕ}
  {V : Valuation τ sig (Elt Idealize.ShloMosaic.Ideal)}

/-- The word of a time below 81 is that time, read as a signed integer. -/
theorem start_word (ht : t < 81) : (BitVec.ofNat 32 t).toInt = (t : ℤ) := StableHlo.Predicate.toInt_ofNat_small _ (by omega)

/-- The step's number, read from the row of all step numbers. -/
theorem step_no (h : Holds x w lab t V) (ht : t < 81) (j : S_.Idx) : res_main_while0b_v47 V j = BitVec.ofNat 32 t := by
  unfold res_main_while0b_v47
  exact (pick_at (V (Proc.devRef .tc main_v43_0)) _ t ht ((congrArg BitVec.toInt (congrFun h.count _)).trans (start_word ht)) j).trans (h.steps ⟨t, ht⟩)

/-- The potentials of a step, as the reference computes them: none while the layer is depressed. -/
theorem pot_at (h : Holds x w lab t V) (ht : t < 81) (b : Fin 32) (n : Fin 2048) :
    res_main_while0b_v58 V (ix2 b n) = (conv x w b t n + boost lab b n) * (if dep (loud x w lab b) t = 0 then 1 else 0) := by
  unfold res_main_while0b_v58
  have e : res_main_while0b_v47 V = fun _ => BitVec.ofNat 32 t := funext fun j => step_no h ht j
  rw [e]
  refine (window_at (V (Proc.devRef .tc main_v43_1)) (V (Proc.devRef .tc main_v43_2)) (V (Proc.devRef .tc main_v43_3)) (V (Proc.devRef .tc main_v43_5)) _ t ht rfl rfl ?_ b n).trans ?_
  · exact (congrArg BitVec.toInt (wrap_small t 128 (by omega))).trans (start_word ht)
  refine congrArg₂ (· * ·) (congrArg₂ (· + ·) ?_ ?_) ?_
  · unfold conv
    exact Finset.sum_congr rfl fun s _ => Finset.sum_congr rfl fun k _ => congrArg₂ (· * ·) (h.wave b s ⟨t + k.val, by omega⟩) (h.taps n s k)
  · rw [h.labels]
    unfold boost Cert.Spec.six
    split_ifs
    · show (((6#32 : BitVec 32).toInt : ℝ) : EReal) = _
      have : (6#32 : BitVec 32).toInt = 6 := by decide
      rw [this]; norm_num
    · show (((0#32 : BitVec 32).toInt : ℝ) : EReal) = _
      norm_num
  · rw [h.depth]
    have hd := Cert.Spec.dep_le (loud x w lab b) t
    by_cases c : dep (loud x w lab b) t = 0
    · rw [if_pos c, c]
      show (((IntOp.cmpi .eq (BitVec.ofNat 32 0) 0#32).toNat : ℝ) : EReal) = 1
      have : IntOp.cmpi .eq (BitVec.ofNat 32 0) 0#32 = 1#1 := by decide
      rw [this]; norm_num
    · rw [if_neg c]
      have : IntOp.cmpi .eq (BitVec.ofNat 32 (dep (loud x w lab b) t)) 0#32 = 0#1 := by
        show BitVec.ofBool (decide _) = _
        rw [decide_eq_false]
        · rfl
        · rw [← BitVec.toNat_inj, BitVec.toNat_ofNat]; norm_num; omega
      show (((IntOp.cmpi .eq (BitVec.ofNat 32 (dep (loud x w lab b) t)) 0#32).toNat : ℝ) : EReal) = 0
      rw [this]; norm_num

/-- Each row's largest potential and its first position: the winner's while the layer is not depressed, zero at the first neuron otherwise. -/
theorem first_at (h : Holds x w lab t V) (ht : t < 81) (b : Fin 32) :
    ∃ f M a, (∀ n : Fin 2048, res_main_while0b_v58 V (ix2 b n) = f n.val) ∧ FirstMax f 2048 M a
      ∧ (Cert.Spec.theta < M ↔ spk (loud x w lab b) t) ∧ (dep (loud x w lab b) t = 0 → FirstMax (potN x w lab b t) 2048 M a) := by
  by_cases c : dep (loud x w lab b) t = 0
  · obtain ⟨a, ha⟩ := Cert.Spec.firstMax_fold 2048 (by norm_num) (potN x w lab b t)
    refine ⟨potN x w lab b t, _, a, fun n => ?_, ha, ?_, fun _ => ha⟩
    · rw [pot_at h ht, if_pos c, mul_one]
      unfold potN
      rw [dif_pos n.isLt]
      rfl
    · constructor
      · exact fun hm => ⟨c, ht, _, a, ha, hm⟩
      · rintro ⟨_, _, m, a', hm, hl⟩
        rw [(ha.unique hm).1]; exact hl
  · refine ⟨fun _ => 0, 0, 0, fun n => ?_, ⟨by norm_num, rfl, fun _ _ => le_refl _, fun n hn => by omega⟩, ?_, fun c' => absurd c' c⟩
    · rw [pot_at h ht, if_neg c, mul_zero]
    · exact ⟨fun hm => absurd hm (not_lt.mpr Cert.Spec.theta_pos.le), fun hs => absurd hs.1 c⟩

/-- The winner, the spike and the layer's output of a step. -/
theorem fire_at (h : Holds x w lab t V) (ht : t < 81) (b : Fin 32) :
    ∃ M a, a < 2048 ∧ res_main_while0b_v65 V (ix1 b) = BitVec.ofNat 32 a
      ∧ (dep (loud x w lab b) t = 0 → FirstMax (potN x w lab b t) 2048 M a)
      ∧ (open Classical in res_main_while0b_v70 V (ix2 b 0) = if spk (loud x w lab b) t then 1#32 else 0#32) := by
  obtain ⟨f, M, a, hf, hm, hs, hw⟩ := first_at h ht b
  have h65 : res_main_while0b_v65 V (ix1 b) = BitVec.ofNat 32 a := by
    unfold res_main_while0b_v65
    exact first_of_row (res_main_while0b_v58 V) f b hf M a hm
  refine ⟨M, a, hm.1, h65, hw, ?_⟩
  have hsm : (res_main_while0b_v65 V (ix1 b)).toNat < 2 ^ 31 := by
    rw [h65, BitVec.toNat_ofNat]; have := hm.1; omega
  have hy : res_main_while0b_call4_v5 V (ix3 b 0 0) = BitVec.ofNat 32 a := by
    rw [← h65]
    unfold res_main_while0b_call4_v5 res_main_while0b_v66
    exact rows_at (res_main_while0b_v65 V) b hsm
  have key := loud_at (res_main_while0b_v58 V) (res_main_while0b_call4_v5 V) b a hm.1 hy
  refine Eq.trans ?_ (key.trans ?_)
  · unfold res_main_while0b_v70 inside
    rfl
  · refine @if_congr _ _ _ _ (Classical.propDecidable _) _ _ _ _ ?_ rfl rfl
    have e : res_main_while0b_v58 V (ix2 b ⟨a, hm.1⟩) = M := (hf ⟨a, hm.1⟩).trans hm.2.1
    rw [e]
    exact hs

open Classical in
/-- The layer's output of a step at a neuron. -/
theorem out_word (h : Holds x w lab t V) (ht : t < 81) (b : Fin 32) (n : Fin 2048) :
    res_main_while0b_v87 V (ix2 b n) = if spk (loud x w lab b) t ∧ ∃ m, FirstMax (potN x w lab b t) 2048 m n.val then 1#32 else 0#32 := by
  obtain ⟨M, a, ha, h65, hw, h70⟩ := fire_at h ht b
  have key := fired_at (res_main_while0b_v65 V) (res_main_while0b_v70 V) b n a ha h65
  refine Eq.trans ?_ (key.trans ?_)
  · unfold res_main_while0b_v87 pairs res_main_while0b_v72
    rfl
  · rw [h70]
    by_cases hs : spk (loud x w lab b) t
    · have hm := hw hs.1
      rw [if_pos hs]
      refine if_congr ⟨fun e => ⟨hs, M, e ▸ hm⟩, fun ⟨_, m, h'⟩ => (hm.unique h').2⟩ rfl rfl
    · rw [if_neg hs, if_neg (fun c : spk (loud x w lab b) t ∧ ∃ m, FirstMax (potN x w lab b t) 2048 m n.val => hs c.1), ite_self]

open Classical in
/-- The depression counts after a step. -/
theorem depth_step (h : Holds x w lab t V) (ht : t < 81) (b : Fin 32) (n : Fin 2048) :
    step_main_v43_5 V (ix2 b n) = BitVec.ofNat 32 (dep (loud x w lab b) (t + 1)) := by
  obtain ⟨M, a, ha, h65, hw, h70⟩ := fire_at h ht b
  have hr : res_main_while0b_v87 V (ix2 b n) = if a = n.val then res_main_while0b_v70 V (ix2 b 0) else 0#32 := by
    refine Eq.trans ?_ (fired_at (res_main_while0b_v65 V) (res_main_while0b_v70 V) b n a ha h65)
    unfold res_main_while0b_v87 pairs res_main_while0b_v72
    rfl
  have key := decay_at (V (Proc.devRef .tc main_v43_5)) (res_main_while0b_v87 V) (res_main_while0b_v65 V) (res_main_while0b_v70 V) b n a _
    (spk (loud x w lab b) t) ha h65 (h.depth b n) (Cert.Spec.dep_le _ _) (fun hs => hs.1) h70 hr
  refine Eq.trans ?_ (key.trans ?_)
  · unfold step_main_v43_5 pairs res_main_while0b_v88
    rfl
  · rw [dep]
    refine congrArg (BitVec.ofNat 32) (if_congr Iff.rfl rfl rfl)

end Cert.ReferenceIdeal.Own
-- ==== Proof.ReferenceOut.lean ====
/- The reference's result: what every step of its loop leaves, and the array after the last. -/
module

public import proofs.«01_k».proof.Proof.Gen.ReferenceIdeal.Run
public import proofs.«01_k».proof.Proof.Spec
public import Idealize.ShloMosaic.Lib.Pointwise
public import Idealize.ShloMosaic.Lib.StableHlo.ReadAt
public import proofs.«01_k».proof.Proof.ReferenceEntry
public import proofs.«01_k».proof.Proof.ReferenceStep
public import Idealize.ShloMosaic.Lib.WordCmp

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo Idealize.SL.Sem

open Cert.Spec (FirstMax potN loud spk dep)

variable {x : Fin 32 → Fin 128 → Fin 64 → EReal} {w : Fin 2048 → Fin 128 → EReal} {lab : Fin 32 → BitVec 32} {t : ℕ}
  {V : Valuation τ sig (Elt Idealize.ShloMosaic.Ideal)}

/-- A step leaves what the next one needs. -/
theorem holds_step (h : Holds x w lab t V) (ht : t < 81) : Holds x w lab (t + 1) (STEP V) where
  steps k := by rw [STEP_main_v43_0]; exact h.steps k
  wave b s u := by rw [STEP_main_v43_1]; exact h.wave b s u
  taps n s k := by rw [STEP_main_v43_2]; exact h.taps n s k
  labels b n := by rw [STEP_main_v43_3]; exact h.labels b n
  count := by
    rw [STEP_main_v43_4]
    unfold step_main_v43_4
    rw [h.count]
    refine funext fun j => ?_
    show BitVec.ofNat 32 t + BitVec.ofNat 32 1 = _
    rw [← BitVec.ofNat_add]
  depth b n := by rw [STEP_main_v43_5]; exact depth_step h ht b n

/-- A step writes its plane of the output and leaves the others. -/
theorem plane_step (h : Holds x w lab t V) (ht : t < 81) (t' : Fin 81) (b : Fin 32) (n : Fin 2048) :
    STEP V (Proc.devRef .tc main_v43_6) (ix3 t' b n)
      = if t'.val = t then res_main_while0b_v87 V (ix2 b n) else V (Proc.devRef .tc main_v43_6) (ix3 t' b n) := by
  rw [STEP_main_v43_6]
  unfold step_main_v43_6
  refine plane_at (V (Proc.devRef .tc main_v43_6)) (res_main_while0b_v87 V) _ t ht ?_ ?_ ?_ t' b n
  · refine Eq.trans (congrArg BitVec.toInt ?_) (start_word ht)
    exact congrFun h.count _
  · rfl
  · rfl

open Classical in
/-- After `k` steps the first `k` planes hold the answer and the others zeros. -/
theorem planes (h0 : Holds x w lab 0 V) (hz : ∀ (t' : Fin 81) (b : Fin 32) (n : Fin 2048), V (Proc.devRef .tc main_v43_6) (ix3 t' b n) = 0#32) (k : ℕ) (hk : k ≤ 81) :
    Holds x w lab k (STEP^[k] V) ∧ ∀ (t' : Fin 81) (b : Fin 32) (n : Fin 2048), STEP^[k] V (Proc.devRef .tc main_v43_6) (ix3 t' b n)
      = if t'.val < k ∧ spk (loud x w lab b) t'.val ∧ ∃ m, FirstMax (potN x w lab b t'.val) 2048 m n.val then 1#32 else 0#32 := by
  induction k with
  | zero => exact ⟨h0, fun t' b n => by rw [if_neg (fun c => absurd c.1 (Nat.not_lt_zero _))]; exact hz t' b n⟩
  | succ k ih =>
    obtain ⟨hh, hp⟩ := ih (by omega)
    rw [Function.iterate_succ_apply']
    refine ⟨holds_step hh (by omega), fun t' b n => ?_⟩
    rw [plane_step hh (by omega), out_word hh (by omega), hp]
    by_cases e : t'.val = k
    · rw [if_pos e, e]
      exact if_congr ⟨fun c => ⟨Nat.lt_succ_self k, c⟩, fun c => c.2⟩ rfl rfl
    · rw [if_neg e]
      exact if_congr ⟨fun c => ⟨by omega, c.2⟩, fun c => ⟨by omega, c.2⟩⟩ rfl rfl

variable (m : (ℓ : Loc nD τ sig) → Buf (Elt Idealize.ShloMosaic.Ideal) ℓ) (c : Dev nD)

/-- What the loop starts from. -/
theorem holds_entry (h : ∀ b, (argL m c b).toNat < 2 ^ 31) : Holds (argX m c) (argW m c) (argL m c) 0 (entryContents preI m c) where
  steps k := entry_0 m c k
  wave b s u := entry_1 m c b s u
  taps n s k := entry_2 m c n s k
  labels b n := entry_3 m c b n h
  count := funext fun k => entry_4 m c k
  depth b n := entry_5 m c b n

open Classical in
/-- The reference's result at an index is the answer. -/
theorem result_at (h : ∀ b, (argL m c b).toNat < 2 ^ 31) (b : Fin 32) (n : Fin 2048) (t : Fin 81) :
    out_main_v46 (STEP^[81] (entryContents preI m c)) (ix4 b 0 n t) = Cert.Spec.answer (argX m c) (argW m c) (argL m c) b n.val t.val := by
  have hp := (planes (holds_entry m c h) (entry_6 m c) 81 (le_refl _)).2 t b n
  generalize STEP^[81] (entryContents preI m c) = V at *
  unfold out_main_v46
  clean_types
  pointwise
  rw [hp]
  unfold Cert.Spec.answer
  have ht := t.isLt
  by_cases hc : spk (loud (argX m c) (argW m c) (argL m c) b) t.val ∧ ∃ M, FirstMax (potN (argX m c) (argW m c) (argL m c) b t.val) 2048 M n.val
  · rw [if_pos ⟨ht, hc⟩, if_pos hc]
    show (((1#32 : BitVec 32).toInt : ℝ) : EReal) = 1
    have : (1#32 : BitVec 32).toInt = 1 := by decide
    rw [this]; norm_num
  · rw [if_neg (fun h => hc h.2), if_neg hc]
    show (((0#32 : BitVec 32).toInt : ℝ) : EReal) = 0
    norm_num

/-- The reference has no semaphore. -/
theorem no_sem (s : SemLoc sig) : False := by
  revert s
  decide

variable (ρ : Dev nD → PrngReg)

/-- The reference's run: the argument arrays end as launched and every semaphore counter at zero. -/
theorem frame : θ_run (defs (F := Idealize.ShloMosaic.Ideal)) (onTc (τ := τ) (main (F := Idealize.ShloMosaic.Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h c).2.1, (h c).2.2.1, (h c).2.2.2⟩, funext fun g => (no_sem g.2).elim⟩) (run m ρ)

end Cert.ReferenceIdeal.Own
-- ==== Proof.lean ====
module

public import proofs.«01_k».proof.Defs
public import proofs.«01_k».proof.Proof.KernelRun
public import proofs.«01_k».proof.Proof.KernelIdealOut
public import proofs.«01_k».proof.Proof.ReferenceOut
public import Idealize.ShloMosaic.Adequacy
public import Idealize.ShloMosaic.Init

@[expose] public section

noncomputable section

namespace Cert.Proof

open Idealize.ShloMosaic Idealize.SL.Sem Cert.Kernel

/-- The predicate's own side condition. -/
theorem facts_labels : Cert.Pre_labels_nonneg.Facts := ⟨by decide⟩

/-- Under the precondition no label is negative. -/
theorem label_small [Cert.Pre_labels_nonneg.Facts] (x w) (lab : IVec Cert.Pre_labels_nonneg.S32 32) (h : Cert.Pre_labels_nonneg.fn (F := Ideal) x w lab = fun _ => 1#1) (b : Fin 32) :
    (lab (ValueIdx.ix1 b)).toNat < 2 ^ 31 := by
  have h1 := congrFun h (ValueIdx.ix1 b)
  unfold Cert.Pre_labels_nonneg.fn at h1
  pointwise at h1
  rw [WordCmp.cmpi_sge_zero] at h1
  by_contra h2
  rw [decide_eq_false h2] at h1
  exact absurd h1 (by decide)

/-- The kernel and the reference return equal arrays. -/
theorem equal : Cert.algebraic_KernelIdeal_ReferenceIdeal_pre_labels_nonneg (hKernelIdeal := Cert.KernelIdeal.Gen.facts) (hReferenceIdeal := Cert.ReferenceIdeal.Gen.facts) (hPre_labels_nonneg := facts_labels) := by
  intro m g m' g' hp hm
  refine ⟨fun c => Cert.KernelIdeal.Own.W4 m g c (Proc.devRef .tc Cert.KernelIdeal.main_v4), ?_, ?_⟩
  · refine (θ_run _ _ _).mono (fun r h c => ?_) (Cert.KernelIdeal.Own.run m g)
    obtain ⟨h0, h1, h2, hv⟩ := h.1 c
    exact ⟨hv _ (Cert.KernelIdeal.Own.mem_uc _ (by decide)), h0, h1, h2⟩
  · refine (θ_run _ _ _).mono (fun r h c => ?_) (Cert.ReferenceIdeal.Value.run m' g')
    obtain ⟨hv, h0, h1, h2⟩ := h c
    refine ⟨hv.trans ?_, h0, h1, h2⟩
    obtain ⟨e0, e1, e2⟩ := hm c
    have ex : Cert.ReferenceIdeal.Own.argX m' c = Cert.KernelIdeal.Own.argX m c := by
      funext b s u
      exact congrFun e0 _
    have ew : Cert.ReferenceIdeal.Own.argW m' c = Cert.KernelIdeal.Own.argW m c := by
      funext n s
      exact congrFun e1 _
    have el : Cert.ReferenceIdeal.Own.argL m' c = Cert.KernelIdeal.Own.argL m c := by
      funext b
      exact congrFun e2 _
    have small : ∀ b, (Cert.ReferenceIdeal.Own.argL m' c b).toNat < 2 ^ 31 := by
      intro b
      rw [el]
      exact @label_small facts_labels _ _ _ (hp c) b
    funext i
    obtain ⟨b, z, n, t, rfl⟩ : ∃ b z n t, i = ValueIdx.ix4 b z n t := ⟨_, _, _, _, ValueIdx.eq_ix4 i⟩
    obtain rfl : z = 0 := Subsingleton.elim _ _
    refine (Cert.ReferenceIdeal.Own.result_at m' c small b n t).trans ?_
    rw [ex, ew, el]
    exact (Cert.KernelIdeal.Own.out_at m g c b n t).symm

/-- The whole claim: the three frames, that the idealised kernel is the kernel, and that it computes the reference's function. -/
theorem claim : Cert.Claim := ⟨Cert.Kernel.Gen.facts, Cert.KernelIdeal.Gen.facts, Cert.ReferenceIdeal.Gen.facts, facts_labels,
  fun m g _ => Cert.Kernel.Own.frame m g,
  fun m g _ => Cert.KernelIdeal.Own.frame m g,
  fun m g _ => Cert.KernelIdeal.Own.frame m g,
  fun m g _ => Cert.ReferenceIdeal.Own.frame m g,
  fun m g _ => Cert.ReferenceIdeal.Own.frame m g,
  trivial,
  equal⟩

end Cert.Proof

end
